-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows_KernelIdeal [hPre_finite_rows_KernelIdeal : Cert.Pre_finite_rows_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows_ReferenceIdeal [hPre_finite_rows_ReferenceIdeal : Cert.Pre_finite_rows_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_rows_KernelIdeal [hKernelIdeal : Cert.KernelIdeal.Facts] [hPre_finite_rows_KernelIdeal : Cert.Pre_finite_rows_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_rows_ReferenceIdeal [hReferenceIdeal : Cert.ReferenceIdeal.Facts] [hPre_finite_rows_ReferenceIdeal : Cert.Pre_finite_rows_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_rows_KernelIdeal [hKernelIdeal : Cert.KernelIdeal.Facts] [hReferenceIdeal : Cert.ReferenceIdeal.Facts] [hPre_finite_rows_KernelIdeal : Cert.Pre_finite_rows_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows_KernelIdeal m →
    (∀ c : Dev Cert.KernelIdeal.nD,
      m ((c.tc : Thread Cert.KernelIdeal.nD Cert.KernelIdeal.τ).loc Cert.KernelIdeal.main_arg0) = Layout.block ⟨2, ![2048, 2048]⟩ ⟨2, ![16384, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 2048]⟩ ⟨2, ![16384, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_rows_KernelIdeal : Cert.Pre_finite_rows_KernelIdeal.Facts) (hPre_finite_rows_ReferenceIdeal : Cert.Pre_finite_rows_ReferenceIdeal.Facts),
    quiescent_Kernel (hKernel := hKernel)
    ∧ quiescent_KernelIdeal (hKernelIdeal := hKernelIdeal)
    ∧ quiescent_KernelIdeal_pre_finite_rows_KernelIdeal (hKernelIdeal := hKernelIdeal) (hPre_finite_rows_KernelIdeal := hPre_finite_rows_KernelIdeal)
    ∧ quiescent_ReferenceIdeal (hReferenceIdeal := hReferenceIdeal)
    ∧ quiescent_ReferenceIdeal_pre_finite_rows_ReferenceIdeal (hReferenceIdeal := hReferenceIdeal) (hPre_finite_rows_ReferenceIdeal := hPre_finite_rows_ReferenceIdeal)
    ∧ preserves_Kernel_KernelIdeal
    ∧ algebraic_KernelIdeal_ReferenceIdeal_pre_finite_rows_KernelIdeal (hKernelIdeal := hKernelIdeal) (hReferenceIdeal := hReferenceIdeal) (hPre_finite_rows_KernelIdeal := hPre_finite_rows_KernelIdeal)
-- ==== Pre_finite_rows_KernelIdeal.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .bf16) (main_arg1 : FVec F S2048x2048 .bf16) (main_arg2 : FVec F S2048 .bf16) : IVec S_ 1 :=
  let main_v0 : FVec F S2048x2048 .bf16 := Host.absf main_arg0
  let main_cst : FVec F S_ .bf16 := constant S_ .bf16 0x7F80#16
  let main_v1 : FVec F S2048x2048 .bf16 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .bf16 := Host.absf main_arg1
  let main_cst_0 : FVec F S_ .bf16 := constant S_ .bf16 0x7F80#16
  let main_v5 : FVec F S2048x2048 .bf16 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Pre_finite_rows_ReferenceIdeal.lean ====
abbrev S16384x2048 : Shape := ⟨2, ![16384, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .bf16) (main_arg1 : FVec F S16384x2048 .bf16) (main_arg2 : FVec F S2048 .bf16) : IVec S_ 1 :=
  let main_v0 : FVec F S16384x2048 .bf16 := Host.absf main_arg0
  let main_cst : FVec F S_ .bf16 := constant S_ .bf16 0x7F80#16
  let main_v1 : FVec F S16384x2048 .bf16 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .bf16 := Host.absf main_arg1
  let main_cst_0 : FVec F S_ .bf16 := constant S_ .bf16 0x7F80#16
  let main_v5 : FVec F S16384x2048 .bf16 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  main_v8
-- ==== Kernel.lean ====
abbrev S2048x2048 : Shape := ⟨2, ![2048, 2048]⟩
abbrev S2048 : Shape := ⟨1, ![2048]⟩
abbrev S2x2048 : Shape := ⟨2, ![2, 2048]⟩
abbrev S512x2048 : Shape := ⟨2, ![512, 2048]⟩
abbrev S2x2x2048 : Shape := ⟨3, ![2, 2, 2048]⟩
abbrev S2x7x2x2048 : Shape := ⟨4, ![2, 7, 2, 2048]⟩
abbrev S2x7 : Shape := ⟨2, ![2, 7]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S1x2x2048 : Shape := ⟨3, ![1, 2, 2048]⟩
abbrev S1x1 : Shape := ⟨2, ![1, 1]⟩
abbrev S1x1x2x2048 : Shape := ⟨4, ![1, 1, 2, 2048]⟩

abbrev nBuf : Space → Nat
  | .hbm => 4
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048, .bf16⟩
  | .hbm, ⟨3, _⟩ => ⟨S2x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048, .bf16⟩
  | .local _ .vmem, ⟨5, _⟩ => ⟨S2x2048, .f32⟩
  | .local _ .vmem, ⟨6, _⟩ => ⟨S2x2048, .f32⟩
  | .local _ .vmem, ⟨7, _⟩ => ⟨S2x2x2048, .f32⟩
  | .local _ .vmem, ⟨8, _⟩ => ⟨S2x7x2x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev barrier0 : Sem sig := 0

abbrev nD : Nat := 8
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_dev1 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_22 : BitVec 32 := 1#32
  let v65 : BitVec 32 := Scalar.addi v2 c1_i32_22
  let c8_i32_23 : BitVec 32 := 8#32
  let v66 : BitVec 32 := Scalar.remsi v65 c8_i32_23
  let c1_i32_25 : BitVec 32 := 1#32
  let v67 : BitVec 32 := Scalar.muli v66 c1_i32_25
  let v68 : BitVec 32 := Scalar.addi c0_i32_26 v67
  v68.toNat
def k0_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_27 : BitVec 32 := 2#32
  let v69 : BitVec 32 := Scalar.addi v2 c2_i32_27
  let c8_i32_28 : BitVec 32 := 8#32
  let v70 : BitVec 32 := Scalar.remsi v69 c8_i32_28
  let c1_i32_30 : BitVec 32 := 1#32
  let v71 : BitVec 32 := Scalar.muli v70 c1_i32_30
  let v72 : BitVec 32 := Scalar.addi c0_i32_31 v71
  v72.toNat
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_32 : BitVec 32 := 3#32
  let v73 : BitVec 32 := Scalar.addi v2 c3_i32_32
  let c8_i32_33 : BitVec 32 := 8#32
  let v74 : BitVec 32 := Scalar.remsi v73 c8_i32_33
  let c1_i32_35 : BitVec 32 := 1#32
  let v75 : BitVec 32 := Scalar.muli v74 c1_i32_35
  let v76 : BitVec 32 := Scalar.addi c0_i32_36 v75
  v76.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v77 : BitVec 32 := Scalar.addi v2 c4_i32
  let c8_i32_37 : BitVec 32 := 8#32
  let v78 : BitVec 32 := Scalar.remsi v77 c8_i32_37
  let c1_i32_39 : BitVec 32 := 1#32
  let v79 : BitVec 32 := Scalar.muli v78 c1_i32_39
  let v80 : BitVec 32 := Scalar.addi c0_i32_40 v79
  v80.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v81 : BitVec 32 := Scalar.addi v2 c5_i32
  let c8_i32_41 : BitVec 32 := 8#32
  let v82 : BitVec 32 := Scalar.remsi v81 c8_i32_41
  let c1_i32_43 : BitVec 32 := 1#32
  let v83 : BitVec 32 := Scalar.muli v82 c1_i32_43
  let v84 : BitVec 32 := Scalar.addi c0_i32_44 v83
  v84.toNat
def k0_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v85 : BitVec 32 := Scalar.addi v2 c6_i32
  let c8_i32_45 : BitVec 32 := 8#32
  let v86 : BitVec 32 := Scalar.remsi v85 c8_i32_45
  let c1_i32_47 : BitVec 32 := 1#32
  let v87 : BitVec 32 := Scalar.muli v86 c1_i32_47
  let v88 : BitVec 32 := Scalar.addi c0_i32_48 v87
  v88.toNat
def k0_dev7 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v89 : BitVec 32 := Scalar.addi v2 c7_i32
  let c8_i32_49 : BitVec 32 := 8#32
  let v90 : BitVec 32 := Scalar.remsi v89 c8_i32_49
  let c1_i32_51 : BitVec 32 := 1#32
  let v91 : BitVec 32 := Scalar.muli v90 c1_i32_51
  let v92 : BitVec 32 := Scalar.addi c0_i32_52 v91
  v92.toNat
def k0_cond2 (i : grid0.Coords) : BitVec 1 :=
  let arg0 : BitVec 32 := BitVec.ofNat 32 (i 0).val
  let c2_i32 : BitVec 32 := 2#32
  let v55 : BitVec 1 := Scalar.cmpi .eq arg0 c2_i32
  let v56 : BitVec 32 := Scalar.extui v55
  let c0_i32_17 : BitVec 32 := 0#32
  let v57 : BitVec 1 := Scalar.cmpi .ne v56 c0_i32_17
  v57

def k0_dev8 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_24 : BitVec 32 := 1#32
  let v65 : BitVec 32 := Scalar.addi v2 c1_i32_24
  let c8_i32_25 : BitVec 32 := 8#32
  let v66 : BitVec 32 := Scalar.remsi v65 c8_i32_25
  let c1_i32_33 : BitVec 32 := 1#32
  let v67 : BitVec 32 := Scalar.muli v66 c1_i32_33
  let v68 : BitVec 32 := Scalar.addi c0_i32_34 v67
  v68.toNat
def k0_dev9 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_39 : BitVec 32 := 2#32
  let v77 : BitVec 32 := Scalar.addi v2 c2_i32_39
  let c8_i32_40 : BitVec 32 := 8#32
  let v78 : BitVec 32 := Scalar.remsi v77 c8_i32_40
  let c1_i32_48 : BitVec 32 := 1#32
  let v79 : BitVec 32 := Scalar.muli v78 c1_i32_48
  let v80 : BitVec 32 := Scalar.addi c0_i32_49 v79
  v80.toNat
def k0_dev10 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_54 : BitVec 32 := 3#32
  let v89 : BitVec 32 := Scalar.addi v2 c3_i32_54
  let c8_i32_55 : BitVec 32 := 8#32
  let v90 : BitVec 32 := Scalar.remsi v89 c8_i32_55
  let c1_i32_63 : BitVec 32 := 1#32
  let v91 : BitVec 32 := Scalar.muli v90 c1_i32_63
  let v92 : BitVec 32 := Scalar.addi c0_i32_64 v91
  v92.toNat
def k0_dev11 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v101 : BitVec 32 := Scalar.addi v2 c4_i32
  let c8_i32_69 : BitVec 32 := 8#32
  let v102 : BitVec 32 := Scalar.remsi v101 c8_i32_69
  let c1_i32_77 : BitVec 32 := 1#32
  let v103 : BitVec 32 := Scalar.muli v102 c1_i32_77
  let v104 : BitVec 32 := Scalar.addi c0_i32_78 v103
  v104.toNat
def k0_dev12 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v113 : BitVec 32 := Scalar.addi v2 c5_i32
  let c8_i32_83 : BitVec 32 := 8#32
  let v114 : BitVec 32 := Scalar.remsi v113 c8_i32_83
  let c1_i32_91 : BitVec 32 := 1#32
  let v115 : BitVec 32 := Scalar.muli v114 c1_i32_91
  let v116 : BitVec 32 := Scalar.addi c0_i32_92 v115
  v116.toNat
def k0_dev13 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v125 : BitVec 32 := Scalar.addi v2 c6_i32
  let c8_i32_97 : BitVec 32 := 8#32
  let v126 : BitVec 32 := Scalar.remsi v125 c8_i32_97
  let c1_i32_105 : BitVec 32 := 1#32
  let v127 : BitVec 32 := Scalar.muli v126 c1_i32_105
  let v128 : BitVec 32 := Scalar.addi c0_i32_106 v127
  v128.toNat
def k0_dev14 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_111 : BitVec 32 := 7#32
  let v137 : BitVec 32 := Scalar.addi v2 c7_i32_111
  let c8_i32_112 : BitVec 32 := 8#32
  let v138 : BitVec 32 := Scalar.remsi v137 c8_i32_112
  let c1_i32_120 : BitVec 32 := 1#32
  let v139 : BitVec 32 := Scalar.muli v138 c1_i32_120
  let v140 : BitVec 32 := Scalar.addi c0_i32_121 v139
  v140.toNat
def k0_cond3 (i : grid0.Coords) : BitVec 1 :=
  let arg0 : BitVec 32 := BitVec.ofNat 32 (i 0).val
  let c3_i32 : BitVec 32 := 3#32
  let v58 : BitVec 1 := Scalar.cmpi .eq arg0 c3_i32
  let v59 : BitVec 32 := Scalar.extui v58
  let c0_i32_18 : BitVec 32 := 0#32
  let v60 : BitVec 1 := Scalar.cmpi .ne v59 c0_i32_18
  v60

def k0_dev15 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_27 : BitVec 32 := 1#32
  let v68 : BitVec 32 := Scalar.addi v2 c1_i32_27
  let c8_i32_28 : BitVec 32 := 8#32
  let v69 : BitVec 32 := Scalar.remsi v68 c8_i32_28
  let c1_i32_36 : BitVec 32 := 1#32
  let v70 : BitVec 32 := Scalar.muli v69 c1_i32_36
  let v71 : BitVec 32 := Scalar.addi c0_i32_37 v70
  v71.toNat
def k0_dev16 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_42 : BitVec 32 := 2#32
  let v80 : BitVec 32 := Scalar.addi v2 c2_i32_42
  let c8_i32_43 : BitVec 32 := 8#32
  let v81 : BitVec 32 := Scalar.remsi v80 c8_i32_43
  let c1_i32_51 : BitVec 32 := 1#32
  let v82 : BitVec 32 := Scalar.muli v81 c1_i32_51
  let v83 : BitVec 32 := Scalar.addi c0_i32_52 v82
  v83.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_57 : BitVec 32 := 3#32
  let v92 : BitVec 32 := Scalar.addi v2 c3_i32_57
  let c8_i32_58 : BitVec 32 := 8#32
  let v93 : BitVec 32 := Scalar.remsi v92 c8_i32_58
  let c1_i32_66 : BitVec 32 := 1#32
  let v94 : BitVec 32 := Scalar.muli v93 c1_i32_66
  let v95 : BitVec 32 := Scalar.addi c0_i32_67 v94
  v95.toNat
def k0_dev18 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v104 : BitVec 32 := Scalar.addi v2 c4_i32
  let c8_i32_72 : BitVec 32 := 8#32
  let v105 : BitVec 32 := Scalar.remsi v104 c8_i32_72
  let c1_i32_80 : BitVec 32 := 1#32
  let v106 : BitVec 32 := Scalar.muli v105 c1_i32_80
  let v107 : BitVec 32 := Scalar.addi c0_i32_81 v106
  v107.toNat
def k0_dev19 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v116 : BitVec 32 := Scalar.addi v2 c5_i32
  let c8_i32_86 : BitVec 32 := 8#32
  let v117 : BitVec 32 := Scalar.remsi v116 c8_i32_86
  let c1_i32_94 : BitVec 32 := 1#32
  let v118 : BitVec 32 := Scalar.muli v117 c1_i32_94
  let v119 : BitVec 32 := Scalar.addi c0_i32_95 v118
  v119.toNat
def k0_dev20 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v128 : BitVec 32 := Scalar.addi v2 c6_i32
  let c8_i32_100 : BitVec 32 := 8#32
  let v129 : BitVec 32 := Scalar.remsi v128 c8_i32_100
  let c1_i32_108 : BitVec 32 := 1#32
  let v130 : BitVec 32 := Scalar.muli v129 c1_i32_108
  let v131 : BitVec 32 := Scalar.addi c0_i32_109 v130
  v131.toNat
def k0_dev21 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v140 : BitVec 32 := Scalar.addi v2 c7_i32
  let c8_i32_114 : BitVec 32 := 8#32
  let v141 : BitVec 32 := Scalar.remsi v140 c8_i32_114
  let c1_i32_122 : BitVec 32 := 1#32
  let v142 : BitVec 32 := Scalar.muli v141 c1_i32_122
  let v143 : BitVec 32 := Scalar.addi c0_i32_123 v142
  v143.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2x2048 : Shape := ⟨2, ![2, 2048]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x1, .bf16⟩
  | .hbm, ⟨11, _⟩ => ⟨S_, .i32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x1, .bf16⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .bf16⟩
  | .hbm, ⟨35, _⟩ => ⟨S16384x1, .bf16⟩
  | .hbm, ⟨36, _⟩ => ⟨S16384x1, .bf16⟩
  | .hbm, ⟨37, _⟩ => ⟨S_, .bf16⟩
  | .hbm, ⟨38, _⟩ => ⟨S16384x1, .bf16⟩
  | .hbm, ⟨39, _⟩ => ⟨S16384x1, .bf16⟩
  | .hbm, ⟨40, _⟩ => ⟨S16384x1, .bf16⟩
  | .hbm, ⟨41, _⟩ => ⟨S_, .bf16⟩
  | .hbm, ⟨42, _⟩ => ⟨S16384x1, .bf16⟩
  | .hbm, ⟨43, _⟩ => ⟨S16384x1, .bf16⟩
  | .hbm, ⟨44, _⟩ => ⟨S16384x2048, .bf16⟩
  | .hbm, ⟨45, _⟩ => ⟨S16384x2048, .bf16⟩
  | .hbm, ⟨46, _⟩ => ⟨S16384x2048, .bf16⟩
  | .hbm, ⟨47, _⟩ => ⟨S16384x2048, .bf16⟩
  | .hbm, ⟨48, _⟩ => ⟨S16384x2048, .bf16⟩
  | .hbm, ⟨49, _⟩ => ⟨S16384x2048, .f32⟩
  | .hbm, ⟨50, _⟩ => ⟨S_, .f32⟩
  | .hbm, ⟨51, _⟩ => ⟨S2048, .f32⟩
  | .hbm, ⟨52, _⟩ => ⟨S2048, .bf16⟩
  | .hbm, ⟨53, _⟩ => ⟨S16384x2048, .f32⟩
  | .hbm, ⟨54, _⟩ => ⟨S_, .f32⟩
  | .hbm, ⟨55, _⟩ => ⟨S2048, .f32⟩
  | .hbm, ⟨56, _⟩ => ⟨S2048, .bf16⟩
  | .hbm, ⟨57, _⟩ => ⟨S1x2048, .bf16⟩
  | .hbm, ⟨58, _⟩ => ⟨S1x2048, .bf16⟩
  | .hbm, ⟨59, _⟩ => ⟨S2x2048, .bf16⟩
  | .hbm, ⟨60, _⟩ => ⟨S2x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_call0_cst_0 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_cst_1 : Ref sig .tc := ⟨.hbm, 23, rfl⟩
abbrev main_call0_v9 : Ref sig .tc := ⟨.hbm, 24, rfl⟩
abbrev main_call0_cst_2 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst_3 : Ref sig .tc := ⟨.hbm, 31, rfl⟩
abbrev main_call0_v15 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_2 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩

abbrev nD : Nat := 1
abbrev τ : Topo := Topo.v7x

variable {F : FTy → Type} [FloatOps F]
-- ==== Proof.Program.lean ====
/-
  The kernel's body as four programs, one for each kind of grid point, over lists of the neighbours' numbers: the barrier's signals, the
  transfers of one wave, the waits for the arrivals and for the transfers' ends. Each is shown equal to the printed body.
-/
module

public import proofs.«01_k».proof.Proof.Gen.KernelIdeal
public import proofs.«01_k».proof.Proof.Gen.KernelIdeal.Skeleton

@[expose] public section

noncomputable section

namespace Cert.RunProof

open Cert.KernelIdeal Cert.KernelIdeal.Gen
open Idealize.ShloMosaic Idealize.SL.Sem
open Idealize.ShloMosaic.TcCoe

variable {F : FTy → Type} [FloatOps F]

/-! ## The memory the body works on -/

abbrev accM : Memref sig .tc .vmem S2x2048 .f32 := Memref.whole cc0_scratch0
abbrev bufM : Memref sig .tc .vmem S2x2x2048 .f32 := Memref.whole cc0_scratch1
abbrev gatM : Memref sig .tc .vmem S2x7x2x2048 .f32 := Memref.whole cc0_scratch2

theorem inb_buf (w : Fin 2) : ∀ a, (![w.val, 0, 0] : Fin 3 → ℕ) a + S1x2x2048.size a ≤ S2x2x2048.size a := by
  revert w; decide
theorem inb_gat (w : Fin 2) (k : Fin 7) : ∀ a, (![w.val, k.val, 0, 0] : Fin 4 → ℕ) a + S1x1x2x2048.size a ≤ S2x7x2x2048.size a := by
  revert w k; decide
theorem inb_sem (w : Fin 2) (k : Fin 7) : ∀ a, (![w.val, k.val] : Fin 2 → ℕ) a + S1x1.size a ≤ S2x7.size a := by
  revert w k; decide

/-- Plane `w` of the send buffer, as the loads and stores address it, -/
abbrev bufR (w : Fin 2) : Rect S2x2x2048 := Rect.unit (s := S2x2x2048) ![w.val, 0, 0] S1x2x2048.size (inb_buf w)
/-- and as the transfers do. -/
abbrev sbufM (w : Fin 2) : Memref sig .tc .vmem S2x2048 .f32 :=
  (bufM.slice (bufR w) (fun _ => rfl)).squeeze S2x2048 squeezes_S1x2x2048_S2x2048
/-- Slot `k` of wave `w` of the gathered partials, as the loads address it, -/
abbrev gatR (w : Fin 2) (k : Fin 7) : Rect S2x7x2x2048 := Rect.unit (s := S2x7x2x2048) ![w.val, k.val, 0, 0] S1x1x2x2048.size (inb_gat w k)
/-- and as the transfers do. -/
abbrev slotM (w : Fin 2) (k : Fin 7) : Memref sig .tc .vmem S2x2048 .f32 :=
  (gatM.slice (gatR w k) (fun _ => rfl)).squeeze S2x2048 squeezes_S1x1x2x2048_S2x2048

/-- The runtime's barrier semaphore of collective 0; the semaphore of one transfer's end and of one arrival. -/
abbrev barS : Sem sig := (SemArray.scalar (sig.barrier 0 rfl) : Sems sig S_).sem
abbrev sendS (w : Fin 2) (k : Fin 7) : DmaSem sig :=
  (((cc0_scratch3 : DmaSems sig S2x7).slice (Rect.unit (s := S2x7) ![w.val, k.val] S1x1.size (inb_sem w k))).squeeze S_ squeezes_S1x1_S_).sem
abbrev recvS (w : Fin 2) (k : Fin 7) : DmaSem sig :=
  (((cc0_scratch4 : DmaSems sig S2x7).slice (Rect.unit (s := S2x7) ![w.val, k.val] S1x1.size (inb_sem w k))).squeeze S_ squeezes_S1x1_S_).sem

/-- The seven neighbours' numbers, and each of them in each wave, in the kernel's order. -/
abbrev ks7 : List (Fin 7) := [0, 1, 2, 3, 4, 5, 6]
abbrev wk14 : List (Fin 2 × Fin 7) :=
  [(0, 0), (0, 1), (0, 2), (0, 3), (0, 4), (0, 5), (0, 6), (1, 0), (1, 1), (1, 2), (1, 3), (1, 4), (1, 5), (1, 6)]

/-! ## The programs -/

abbrev P (α : Type) : Type 1 := Prog (TpuEff nD τ sig (Elt F) Λ₀ .tc) α

/-- One unit to the barrier of each device of the list, then `K`. -/
def signalAll (D : Fin 7 → Dev nD) (K : P (F := F) PUnit) : List (Fin 7) → P (F := F) PUnit
  | [] => K
  | k :: ks => .op (.semSignal (D k : Thread nD τ) barS (1#32).toNat) fun _ => signalAll D K ks

/-- Plane `w` of the send buffer to each device of the list, into its slot of that number, then `K`. -/
def sendAll (w : Fin 2) (D : Fin 7 → Dev nD) (K : P (F := F) PUnit) : List (Fin 7) → P (F := F) PUnit
  | [] => K
  | k :: ks => .op (.enqueueDma (sbufM w) (.remote (Dev.tc (D k)) (slotM w k) (.dma (sendS w k))) (.dma (recvS w k))
      ((View.wordExact_bits rfl).reshape _ _) ((View.wordExact_bits rfl).reshape _ _) ⟨⟨rfl, Or.inl rfl⟩, trivial⟩) fun _ => sendAll w D K ks

/-- The arrival of each slot of the list awaited and the slot added to the total, then `K` at the total. -/
def recvAll (K : FVec F S2x2048 .f32 → P (F := F) PUnit) : List (Fin 2 × Fin 7) → FVec F S2x2048 .f32 → P (F := F) PUnit
  | [], v => K v
  | (w, k) :: l, v => .op (.waitDma2 (recvS w k) (sbufM w) (slotM w k) ((View.wordExact_bits rfl).reshape _ _) ((View.wordExact_bits rfl).reshape _ _)) fun _ =>
      .op (.load gatM (gatR w k).toLoadRect (View.loadsAt_vmem h_S1x1x2x2048)) fun (x : Vec F S1x1x2x2048 .f32) =>
        recvAll K l (addf v (shapeCast S2x2048 x shapeCasts_S1x1x2x2048_S2x2048))

/-- The end of each transfer of the list awaited, then `K`. -/
def doneAll (K : P (F := F) PUnit) : List (Fin 2 × Fin 7) → P (F := F) PUnit
  | [] => K
  | (w, k) :: l => .op (.waitDma2 (sendS w k) (slotM w k) (sbufM w) ((View.wordExact_bits rfl).reshape _ _) ((View.wordExact_bits rfl).reshape _ _)) fun _ => doneAll K l

abbrev accR : Rect S2x2048 := Rect.unit (s := S2x2048) ![0, 0] S2x2048.size inb_S2x2048_S2x2048_0_0
abbrev accR0 : Rect S2x2048 := Rect.unit (s := S2x2048) ![0, 0] S1x2048.size inb_S2x2048_S1x2048_0_0
abbrev accR1 : Rect S2x2048 := Rect.unit (s := S2x2048) ![1, 0] S1x2048.size inb_S2x2048_S1x2048_1_0
abbrev blkR : Rect S512x2048 := Rect.unit (s := S512x2048) ![0, 0] S512x2048.size inb_S512x2048_S512x2048_0_0

/-- The point's two blocks loaded and their sums added to the accumulator's two rows, then `K`. -/
def accum (a1 a2 : Memref sig .tc .vmem S512x2048 .bf16) (K : P (F := F) PUnit) : P (F := F) PUnit :=
  .op (.load a1 blkR.toLoadRect (View.loadsAt_vmem h_S512x2048)) fun (x : Vec F S512x2048 .bf16) =>
  .op (.load a2 blkR.toLoadRect (View.loadsAt_vmem h_S512x2048)) fun (y : Vec F S512x2048 .bf16) =>
  .op (.load accM accR0.toLoadRect (View.loadsAt_vmem h_S1x2048)) fun (u : Vec F S1x2048 .f32) =>
  .op (.load accM accR0.toLoadRect (View.loadsAt_vmem h_S1x2048)) fun _ =>
  .op (.store accM accR0 (k0_pay1 (k0_pay15 x y) u) Finset.univ (View.stores_vmem_bits_univ h_S1x2048 rfl) (.inl rfl)) fun _ =>
  .op (.load accM accR1.toLoadRect (View.loadsAt_vmem h_S1x2048)) fun (v : Vec F S1x2048 .f32) =>
  .op (.load accM accR1.toLoadRect (View.loadsAt_vmem h_S1x2048)) fun _ =>
  .op (.store accM accR1 (k0_pay2 (k0_pay16 y) v) Finset.univ (View.stores_vmem_bits_univ h_S1x2048 rfl) (.inl rfl)) fun _ => K

/-- The first point: the accumulator zeroed, the neighbours told, the blocks added. -/
def progFirst (D : Fin 7 → Dev nD) (a1 a2 : Memref sig .tc .vmem S512x2048 .bf16) : P (F := F) PUnit :=
  .op (.load accM accR.toLoadRect (View.loadsAt_vmem h_S2x2048)) fun _ =>
  .op (.store accM accR (k0_pay3 (F := F)) Finset.univ (View.stores_vmem_bits_univ h_S2x2048 rfl) (.inl rfl)) fun _ =>
  signalAll D (accum a1 a2 (.ret ⟨⟩)) ks7

/-- The point of the first wave: the blocks added, the neighbours awaited, the partial sums so far sent. -/
def progWave0 (D : Fin 7 → Dev nD) (a1 a2 : Memref sig .tc .vmem S512x2048 .bf16) : P (F := F) PUnit :=
  accum a1 a2 <|
  .op (.semWait barS (7#32).toNat) fun _ =>
  .op (.load accM accR.toLoadRect (View.loadsAt_vmem h_S2x2048)) fun (v : Vec F S2x2048 .f32) =>
  .op (.load bufM (bufR 0).toLoadRect (View.loadsAt_vmem h_S1x2x2048)) fun _ =>
  .op (.store bufM (bufR 0) (k0_pay4 v) Finset.univ (View.stores_vmem_bits_univ h_S1x2x2048 rfl) (.inl rfl)) fun _ =>
  sendAll 0 D (.ret ⟨⟩) ks7

/-- The last point: the blocks added, what was not sent yet sent, the arrivals added up and the result stored. -/
def progWave1 (D : Fin 7 → Dev nD) (a1 a2 : Memref sig .tc .vmem S512x2048 .bf16) (a4 : Memref sig .tc .vmem S2x2048 .f32) : P (F := F) PUnit :=
  accum a1 a2 <|
  .op (.load accM accR.toLoadRect (View.loadsAt_vmem h_S2x2048)) fun (v : Vec F S2x2048 .f32) =>
  .op (.load bufM (bufR 0).toLoadRect (View.loadsAt_vmem h_S1x2x2048)) fun (u : Vec F S1x2x2048 .f32) =>
  .op (.load bufM (bufR 1).toLoadRect (View.loadsAt_vmem h_S1x2x2048)) fun _ =>
  .op (.store bufM (bufR 1) (k0_pay5 v u) Finset.univ (View.stores_vmem_bits_univ h_S1x2x2048 rfl) (.inl rfl)) fun _ =>
  sendAll 1 D (
    .op (.load accM accR.toLoadRect (View.loadsAt_vmem h_S2x2048)) fun (z : Vec F S2x2048 .f32) =>
    recvAll (fun r => doneAll (
      .op (.load a4 accR.toLoadRect (View.loadsAt_vmem h_S2x2048)) fun _ =>
      .op (.store a4 accR r Finset.univ (View.stores_vmem_bits_univ h_S2x2048 rfl) (.inl rfl)) fun _ => .ret ⟨⟩) wk14) wk14 z) ks7

section Equal

variable (i : grid0.Coords) (a1 : Memref sig .tc .vmem S512x2048 .bf16) (h1 : a1.IsWhole) (a2 : Memref sig .tc .vmem S512x2048 .bf16) (h2 : a2.IsWhole)
  (a3 : Memref sig .tc .vmem S2048 .bf16) (h3 : a3.IsWhole) (a4 : Memref sig .tc .vmem S2x2048 .f32) (h4 : a4.IsWhole)

/-- The body at a point, over the launch's buffers. -/
abbrev bodyOf : P (F := F) PUnit :=
  cc0_body i a1 h1 a2 h2 a3 h3 a4 h4 accM (Memref.isWhole_whole _) bufM (Memref.isWhole_whole _) gatM (Memref.isWhole_whole _) cc0_scratch3 cc0_scratch4

set_option maxRecDepth 65536 in
/-- At a point that is none of the three: the accumulation alone. -/
theorem body_mid (c1 : ¬ k0_cond1 i = 1#1) (c2 : ¬ k0_cond2 i = 1#1) (c3 : ¬ k0_cond3 i = 1#1) :
    bodyOf (F := F) i a1 h1 a2 h2 a3 h3 a4 h4 = .op .deviceId fun _ => accum a1 a2 (.ret ⟨⟩) := by
  unfold bodyOf
  rw [cc0_body_eq_skeleton]; unfold cc0_body_skel
  rw [k0_part21_eq_skeleton]; unfold k0_part21_skel
  simp only [dif_neg c1, dif_neg c2, dif_neg c3]
  rfl

/-- The devices the first point signals, those the first wave goes to, those the second goes to: as the body computes them. -/
abbrev devsA (d : Dev nD) (c1 : k0_cond1 i = 1#1) : Fin 7 → Dev nD :=
  ![⟨k0_dev1 d, k0_dev1_lt i d c1⟩, ⟨k0_dev2 d, k0_dev2_lt i d c1⟩, ⟨k0_dev3 d, k0_dev3_lt i d c1⟩, ⟨k0_dev4 d, k0_dev4_lt i d c1⟩,
    ⟨k0_dev5 d, k0_dev5_lt i d c1⟩, ⟨k0_dev6 d, k0_dev6_lt i d c1⟩, ⟨k0_dev7 d, k0_dev7_lt i d c1⟩]
abbrev devsB (d : Dev nD) (c2 : k0_cond2 i = 1#1) : Fin 7 → Dev nD :=
  ![⟨k0_dev8 d, k0_dev8_lt i d c2⟩, ⟨k0_dev9 d, k0_dev9_lt i d c2⟩, ⟨k0_dev10 d, k0_dev10_lt i d c2⟩, ⟨k0_dev11 d, k0_dev11_lt i d c2⟩,
    ⟨k0_dev12 d, k0_dev12_lt i d c2⟩, ⟨k0_dev13 d, k0_dev13_lt i d c2⟩, ⟨k0_dev14 d, k0_dev14_lt i d c2⟩]
abbrev devsC (d : Dev nD) (c3 : k0_cond3 i = 1#1) : Fin 7 → Dev nD :=
  ![⟨k0_dev15 d, k0_dev15_lt i d c3⟩, ⟨k0_dev16 d, k0_dev16_lt i d c3⟩, ⟨k0_dev17 d, k0_dev17_lt i d c3⟩, ⟨k0_dev18 d, k0_dev18_lt i d c3⟩,
    ⟨k0_dev19 d, k0_dev19_lt i d c3⟩, ⟨k0_dev20 d, k0_dev20_lt i d c3⟩, ⟨k0_dev21 d, k0_dev21_lt i d c3⟩]

set_option maxRecDepth 65536 in
/-- At the first point. -/
theorem body_first (c1 : k0_cond1 i = 1#1) (c2 : ¬ k0_cond2 i = 1#1) (c3 : ¬ k0_cond3 i = 1#1) :
    bodyOf (F := F) i a1 h1 a2 h2 a3 h3 a4 h4 = .op .deviceId fun d => progFirst (devsA i d c1) a1 a2 := by
  unfold bodyOf
  rw [cc0_body_eq_skeleton]; unfold cc0_body_skel
  rw [k0_part21_eq_skeleton]; unfold k0_part21_skel
  simp only [dif_pos c1, dif_neg c2, dif_neg c3]
  rfl

set_option maxRecDepth 65536 in
/-- At the point of the first wave. -/
theorem body_wave0 (c1 : ¬ k0_cond1 i = 1#1) (c2 : k0_cond2 i = 1#1) (c3 : ¬ k0_cond3 i = 1#1) :
    bodyOf (F := F) i a1 h1 a2 h2 a3 h3 a4 h4 = .op .deviceId fun d => progWave0 (devsB i d c2) a1 a2 := by
  unfold bodyOf
  rw [cc0_body_eq_skeleton]; unfold cc0_body_skel
  rw [k0_part21_eq_skeleton]; unfold k0_part21_skel
  simp only [dif_neg c1, dif_pos c2, dif_neg c3]
  rfl

set_option maxRecDepth 65536 in
/-- At the last point. -/
theorem body_wave1 (c1 : ¬ k0_cond1 i = 1#1) (c2 : ¬ k0_cond2 i = 1#1) (c3 : k0_cond3 i = 1#1) :
    bodyOf (F := F) i a1 h1 a2 h2 a3 h3 a4 h4 = .op .deviceId fun d => progWave1 (devsC i d c3) a1 a2 a4 := by
  unfold bodyOf
  rw [cc0_body_eq_skeleton]; unfold cc0_body_skel
  rw [k0_part21_eq_skeleton]; unfold k0_part21_skel
  simp only [dif_neg c1, dif_neg c2, dif_pos c3]
  rfl

end Equal

end Cert.RunProof

end
-- ==== Proof.Protocol.lean ====
/-
  The exchange's protocol: the cells (a barrier, fourteen transfers' ends and fourteen arrivals on each device), what each credit hands over,
  what each device owes and in what order it may wait.
-/
module

public import proofs.«01_k».proof.Proof.Program
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Ring
public import Idealize.ShloMosaic.Lib.MemrefSat
public import Idealize.ShloMosaic.Lib.Tactic

@[expose] public section

noncomputable section

namespace Cert.RunProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The neighbours -/

set_option backward.proofsInPublic true in
/-- The device `c`'s signal and transfer number `k` go to, `k + 1` places on; -/
def tgt (c : Dev nD) (k : Fin 7) : Dev nD := ⟨(c.val + (k.val + 1)) % 8, Nat.mod_lt _ (by decide)⟩
set_option backward.proofsInPublic true in
/-- the one whose number `k` come to `c`. -/
def src (c : Dev nD) (k : Fin 7) : Dev nD := ⟨(c.val + (7 - k.val)) % 8, Nat.mod_lt _ (by decide)⟩
/-- The number under which the device reached by number `k` reaches back. -/
abbrev opp (k : Fin 7) : Fin 7 := Fin.rev k

theorem src_tgt (c : Dev nD) (k : Fin 7) : src (tgt c k) k = c := by revert c k; decide
theorem tgt_src (c : Dev nD) (k : Fin 7) : tgt (src c k) k = c := by revert c k; decide
theorem tgt_opp (c : Dev nD) (k : Fin 7) : tgt c (opp k) = src c k := by revert c k; decide

/-- All devices moved `k + 1` places on. -/
def turn (k : Fin 7) : Dev nD ≃ Dev nD := ⟨fun c => tgt c k, fun c => src c k, fun c => src_tgt c k, fun c => tgt_src c k⟩

theorem devsA_eq (i : grid0.Coords) (d : Dev nD) (h : k0_cond1 i = 1#1) : devsA i d h = tgt d :=
  funext fun k => Fin.ext (by
    fin_cases k
    exacts [k0_dev1_eq d, k0_dev2_eq d, k0_dev3_eq d, k0_dev4_eq d, k0_dev5_eq d, k0_dev6_eq d, k0_dev7_eq d])
theorem devsB_eq (i : grid0.Coords) (d : Dev nD) (h : k0_cond2 i = 1#1) : devsB i d h = tgt d :=
  funext fun k => Fin.ext (by
    fin_cases k
    exacts [k0_dev8_eq d, k0_dev9_eq d, k0_dev10_eq d, k0_dev11_eq d, k0_dev12_eq d, k0_dev13_eq d, k0_dev14_eq d])
theorem devsC_eq (i : grid0.Coords) (d : Dev nD) (h : k0_cond3 i = 1#1) : devsC i d h = tgt d :=
  funext fun k => Fin.ext (by
    fin_cases k
    exacts [k0_dev15_eq d, k0_dev16_eq d, k0_dev17_eq d, k0_dev18_eq d, k0_dev19_eq d, k0_dev20_eq d, k0_dev21_eq d])

/-! ## The cells -/

/-- A cell of the exchange on one device: the barrier, or, of wave `w` and number `k`, the transfer's end (`false`) or the arrival (`true`). -/
abbrev CK : Type := Option (Bool × Fin 2 × Fin 7)

def csem : CK → SemLoc sig
  | none => .reg barS
  | some (false, w, k) => .dma (sendS w k)
  | some (true, w, k) => .dma (recvS w k)

abbrev cellAt (c : Dev nD) (x : CK) : GSem nD τ sig := ((c : Thread nD τ), csem x)
abbrev barCell (c : Dev nD) : GSem nD τ sig := cellAt c none
abbrev sendCell (c : Dev nD) (w : Fin 2) (k : Fin 7) : GSem nD τ sig := cellAt c (some (false, w, k))
abbrev recvCell (c : Dev nD) (w : Fin 2) (k : Fin 7) : GSem nD τ sig := cellAt c (some (true, w, k))

theorem csem_injective : Function.Injective csem := by decide

/-- The cell a semaphore is, if it is one of the exchange's. -/
def which (s : SemLoc sig) : Option CK := by
  classical exact if h : ∃ x, csem x = s then some h.choose else none

theorem which_csem (x : CK) : which (csem x) = some x := by
  have h : ∃ y, csem y = csem x := ⟨x, rfl⟩
  unfold which
  rw [dif_pos h]
  exact congrArg some (csem_injective h.choose_spec)

theorem which_none (s : SemLoc sig) (h : ∀ x, csem x ≠ s) : which s = none := by
  unfold which
  rw [dif_neg fun ⟨x, hx⟩ => h x hx]

theorem cellAt_injective : Function.Injective fun cx : Dev nD × CK => cellAt cx.1 cx.2 := by
  rintro ⟨c, x⟩ ⟨c', x'⟩ h
  have h1 : c = c' := congrArg (fun g : GSem nD τ sig => g.1.1) h
  have h2 : x = x' := csem_injective (congrArg Prod.snd h)
  rw [h1, h2]

theorem cellAt_iff {a b : Dev nD} {x y : CK} : cellAt a x = cellAt b y ↔ a = b ∧ x = y :=
  ⟨fun h => Prod.mk.inj (cellAt_injective (a₁ := (a, x)) (a₂ := (b, y)) h), fun ⟨h, h'⟩ => by rw [h, h']⟩

/-- The credit of one transfer. -/
abbrev N : ℕ := (slotM 0 0).view.dmaCredit
theorem N_pos : 0 < N := View.dmaCredit_pos _ (by decide)
theorem credit_slot (w : Fin 2) (k : Fin 7) : (slotM w k).view.dmaCredit = N := rfl
theorem credit_sbuf (w : Fin 2) : (sbufM w).view.dmaCredit = N := rfl

/-! ## Conjunctions along a list -/

/-- `Φ` at each entry of the list. -/
def seps {M : Type} [URA M] {I : Type} (Φ : I → sProp M) : List I → sProp M
  | [] => iprop(emp)
  | i :: l => iprop(Φ i ∗ seps Φ l)

/-- A conjunction over a finite type is the one along a list of its elements. -/
theorem bigSep_seps {M : Type} [URA M] {I : Type} [Fintype I] [DecidableEq I] (Φ : I → sProp M) (l : List I) (hn : l.Nodup) (hm : ∀ i, i ∈ l) :
    bigSep Finset.univ Φ = seps Φ l := by
  have h : ∀ l : List I, l.Nodup → bigSep l.toFinset Φ = seps Φ l := by
    intro l
    induction l with
    | nil => intro _; rfl
    | cons i l ih =>
      intro hl
      rw [List.toFinset_cons, bigSep_insert (by rw [List.mem_toFinset]; exact (List.nodup_cons.mp hl).1), ih (List.nodup_cons.mp hl).2]
      rfl
  rw [← h l hn]
  congr 1
  ext i; simp [hm i]

theorem bigSep_ks7 {M : Type} [URA M] (Φ : Fin 7 → sProp M) : bigSep Finset.univ Φ = seps Φ ks7 := bigSep_seps Φ _ (by decide) (by decide)
theorem bigSep_wk14 {M : Type} [URA M] (Φ : Fin 2 × Fin 7 → sProp M) : bigSep Finset.univ Φ = seps Φ wk14 := bigSep_seps Φ _ (by decide) (by decide)

/-! ## Contents -/

variable (m : (ℓ : Loc nD τ sig) → Buf (Elt F) ℓ) (ρ : Dev nD → PrngReg)

theorem cfg0_N : cfg0.N = 4 := N_0
/-- The grid's point number `t`. -/
def pt (t : ℕ) : Fin cfg0.N := ⟨t % 4, by rw [cfg0_N]; exact Nat.mod_lt _ (by decide)⟩
theorem pt_val (t : Fin cfg0.N) : pt t.val = t := Fin.ext (Nat.mod_eq_of_lt (cfg0_N ▸ t.isLt : t.val < 4))

/-- The rows of `x`, and of `dy`, of point `t` on device `c`. -/
def xsAt (c : Dev nD) (t : ℕ) : Vec F S512x2048 .bf16 := Gen.iblk m c 0 (pt t)
def dysAt (c : Dev nD) (t : ℕ) : Vec F S512x2048 .bf16 := Gen.iblk m c 1 (pt t)

/-- The accumulator after the first row's addition, and after both. -/
def accRow (x y : Vec F S512x2048 .bf16) (a : (cc0_scratch0 : Ref sig .tc).ty.Contents (Elt F)) : (cc0_scratch0 : Ref sig .tc).ty.Contents (Elt F) :=
  (accM.access accR0).write (Elt F) a (k0_pay1 (k0_pay15 x y) (accM.view.readAt (Elt F) accR0.toLoadRect a)) Finset.univ
def accStep (x y : Vec F S512x2048 .bf16) (a : (cc0_scratch0 : Ref sig .tc).ty.Contents (Elt F)) : (cc0_scratch0 : Ref sig .tc).ty.Contents (Elt F) :=
  (accM.access accR1).write (Elt F) (accRow x y a) (k0_pay2 (k0_pay16 y) (accM.view.readAt (Elt F) accR1.toLoadRect (accRow x y a))) Finset.univ

/-- The accumulator of device `c` after its first `t` points. -/
def accAt (c : Dev nD) : ℕ → (cc0_scratch0 : Ref sig .tc).ty.Contents (Elt F)
  | 0 => (k0_pay3 (F := F) : FVec F S2x2048 .f32)
  | t + 1 => accStep (xsAt m c t) (dysAt m c t) (accAt c t)

/-- What device `c` sends: in the first wave its sums after three points, in the second what the fourth added. -/
def snt (c : Dev nD) (w : Fin 2) : S2x2048.Idx → Elt F .f32 :=
  if w = 0 then (accAt m c 3 : FVec F S2x2048 .f32) else subf (accAt m c 4 : FVec F S2x2048 .f32) (accAt m c 3 : FVec F S2x2048 .f32)

/-- Its own sums and all arrivals added up, in the kernel's order. -/
def totAt (c : Dev nD) : FVec F S2x2048 .f32 :=
  wk14.foldl (fun v wk => addf v (snt m (src c wk.2) wk.1 : FVec F S2x2048 .f32)) (accAt m c 4 : FVec F S2x2048 .f32)

/-! ## What the credits hand over -/

/-- What is left of a full share after `n` transfers were lent a part, and the part the `n`th was lent. -/
def rest : ℕ → PosShare TreeShare
  | 0 => fullShare
  | n + 1 => (rest n).right
def lent (n : ℕ) : PosShare TreeShare := (rest n).left

/-- Slot `(w, k)` of device `c`, at any contents. -/
def slotAny (c : Dev nD) (w : Fin 2) (k : Fin 7) : sProp 𝕄 :=
  iprop(∃ f, (slotM w k).view.loc (c : Thread nD τ) ↦[(slotM w k).view.set]{fullShare} f)
/-- Signal number `k` reaching `c` hands it the two slots of the signalling device that `c` writes. -/
def barPay (c : Dev nD) (k : Fin 7) : sProp 𝕄 := iprop(slotAny (F := F) (src c k) 0 (opp k) ∗ slotAny (F := F) (src c k) 1 (opp k))
/-- An arrival hands the slot at what was sent; -/
def recvPay (c : Dev nD) (w : Fin 2) (k : Fin 7) : sProp 𝕄 := owns (c : Thread nD τ) (slotM w k) fullShare (snt m (src c k) w)
/-- a transfer's end hands back the part of the send buffer it was lent. -/
def sendPay (c : Dev nD) (w : Fin 2) (k : Fin 7) : sProp 𝕄 := owns (c : Thread nD τ) (sbufM w) (lent k.val) (snt m c w)

def payAt (c : Dev nD) (d : Fin 7) : CK → sProp 𝕄
  | none => barPay c d
  | some (false, w, k) => sendPay m c w k
  | some (true, w, k) => recvPay m c w k

omit [FloatOps F] in
instance slotAny_storable (c : Dev nD) (w k) : BI.Storable (upEmb : UEmb _ 𝕄) (slotAny (F := F) c w k) := by unfold slotAny; infer_instance
instance payAt_storable (c : Dev nD) (d : Fin 7) (x : CK) : BI.Storable (upEmb : UEmb _ 𝕄) (payAt (F := F) m c d x) := by
  rcases x with _ | ⟨_ | _, w, k⟩
  · show BI.Storable upEmb (barPay c d); unfold barPay; infer_instance
  · show BI.Storable upEmb (sendPay m c w k); unfold sendPay owns; infer_instance
  · show BI.Storable upEmb (recvPay m c w k); unfold recvPay owns; infer_instance

/-- One round of each cell: the barrier's has a duty of one unit for each neighbour, the others' the one duty of a transfer's credit. -/
def sched : Rounds.Schedule (GSem nD τ sig) (Fin 7) 𝕄 where
  duties g r := if r = 0 ∧ g.1.2 = .tc then (match which g.2 with | none => ∅ | some none => Finset.univ | some (some _) => {0}) else ∅
  unitless _ := False
  amount g _ _ := match which g.2 with | some none => 1 | _ => N
  payload g _ d := match which g.2 with | none => iprop(emp) | some x => payAt m g.1.1 d x
  amount_pos g _ _ _ := by
    split
    · exact Nat.one_pos
    · exact N_pos

instance sched_storable (g : GSem nD τ sig) (r : ℕ) (d : Fin 7) : BI.Storable (upEmb : UEmb _ 𝕄) ((sched (F := F) m).payload g r d) := by
  show BI.Storable upEmb (match which g.2 with | none => iprop(emp) | some x => payAt m g.1.1 d x)
  split <;> infer_instance

section Sched
variable (c : Dev nD) (w : Fin 2) (k : Fin 7)

theorem duties_bar : (sched (F := F) m).duties (barCell c) 0 = Finset.univ := by
  dsimp only [sched]; rw [if_pos ⟨rfl, rfl⟩, which_csem]
theorem duties_dma (b : Bool) : (sched (F := F) m).duties (cellAt c (some (b, w, k))) 0 = {0} := by
  dsimp only [sched]; rw [if_pos ⟨rfl, rfl⟩, which_csem]
theorem duties_later (g : GSem nD τ sig) : ∀ r, 1 ≤ r → (sched (F := F) m).duties g r = ∅ :=
  fun r hr => by dsimp only [sched]; rw [if_neg fun h => by omega]
theorem amount_bar (d : Fin 7) : (sched (F := F) m).amount (barCell c) 0 d = 1 := by
  dsimp only [sched]; rw [which_csem]
theorem amount_dma (b : Bool) (d : Fin 7) : (sched (F := F) m).amount (cellAt c (some (b, w, k))) 0 d = N := by
  dsimp only [sched]; rw [which_csem]
theorem payload_at (x : CK) (d : Fin 7) : (sched (F := F) m).payload (cellAt c x) 0 d = payAt m c d x := by
  dsimp only [sched]; rw [which_csem]
theorem expect_bar : (sched (F := F) m).expect (barCell c) 0 = 7 := by
  unfold Schedule.expect Schedule.amountOf
  rw [duties_bar, Finset.sum_congr rfl fun d _ => amount_bar m c d]; rfl
theorem expect_dma (b : Bool) : (sched (F := F) m).expect (cellAt c (some (b, w, k))) 0 = N := by
  unfold Schedule.expect Schedule.amountOf
  rw [duties_dma, Finset.sum_singleton, amount_dma]
theorem rest_bar : bigSep ((sched (F := F) m).duties (barCell c) 0 \ ∅) (fun d => (sched (F := F) m).payload (barCell c) 0 d)
    = bigSep Finset.univ (barPay (F := F) c) := by
  rw [Finset.sdiff_empty, duties_bar]
  exact bigSep_congr fun d _ => payload_at m c none d
theorem rest_dma (b : Bool) : bigSep ((sched (F := F) m).duties (cellAt c (some (b, w, k))) 0 \ ∅) (fun d => (sched (F := F) m).payload (cellAt c (some (b, w, k))) 0 d)
    = payAt m c 0 (some (b, w, k)) := by
  rw [Finset.sdiff_empty, duties_dma, bigSep_singleton, payload_at]

end Sched

/-! ## What is owed, and in what order -/

/-- A unit to each barrier of the list's numbers; a transfer's credit to each arrival of wave `w` of the list's numbers. -/
def owedBar (c : Dev nD) (l : List (Fin 7)) : CellTallies nD τ sig Unit := (l.map fun k => tallyAt (barCell (tgt c k)) () 1).sum
def owedRecv (c : Dev nD) (w : Fin 2) (l : List (Fin 7)) : CellTallies nD τ sig Unit := (l.map fun k => tallyAt (recvCell (tgt c k) w k) () N).sum

/-- Owed after the first point, after the first wave. -/
def O₁ (c : Dev nD) : CellTallies nD τ sig Unit := owedRecv c 1 ks7 + owedRecv c 0 ks7
def O₃ (c : Dev nD) : CellTallies nD τ sig Unit := owedRecv c 1 ks7
/-- Owed at launch. -/
def O₀ (c : Dev nD) : CellTallies nD τ sig Unit := O₁ c + owedBar c ks7

theorem sum_pos {I : Type} (f : I → GSem nD τ sig) (n : ℕ) (l : List I) {g : GSem nD τ sig} {u : Unit}
    (h : 0 < (l.map fun i => (tallyAt (f i) () n : CellTallies nD τ sig Unit)).sum g u) : ∃ i ∈ l, g = f i := by
  induction l with
  | nil => exact absurd h (Nat.lt_irrefl 0)
  | cons i l ih =>
    rw [List.map_cons, List.sum_cons, Pi.add_apply, Finsupp.add_apply, tallyAt_apply] at h
    by_cases hg : g = f i ∧ u = ()
    · exact ⟨i, List.mem_cons_self, hg.1⟩
    · rw [if_neg hg, Nat.zero_add] at h
      obtain ⟨j, hj, e⟩ := ih h
      exact ⟨j, List.mem_cons_of_mem _ hj, e⟩

def L (g : GSem nD τ sig) : Finset Unit := if g.1.2 = .tc then {()} else ∅
/-- The barriers at 1, the arrivals at 2, everything else at 0. -/
def lv (g : GSem nD τ sig) (_ : Unit) : ℕ := match which g.2 with | some none => 1 | some (some (true, _, _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; rw [which_csem]
theorem lv_recv (c : Dev nD) (w : Fin 2) (k : Fin 7) (u : Unit) : lv (recvCell c w k) u = 2 := by dsimp only [lv]; rw [which_csem]

/-- Everything owed is owed to a barrier or to an arrival, of some device; after the first point, to an arrival. -/
theorem O₁_pos {c : Dev nD} {g : GSem nD τ sig} {u : Unit} (h : 0 < O₁ c g u) : ∃ d w k, g = recvCell d w k := by
  unfold O₁ owedRecv at h
  rw [Pi.add_apply, Finsupp.add_apply] at h
  rcases Nat.pos_of_ne_zero (Nat.ne_of_gt h) |> Nat.add_pos_iff_pos_or_pos.mp with h | h
  · obtain ⟨k, -, e⟩ := sum_pos _ _ _ h; exact ⟨_, _, _, e⟩
  · obtain ⟨k, -, e⟩ := sum_pos _ _ _ h; exact ⟨_, _, _, e⟩
theorem O₃_pos {c : Dev nD} {g : GSem nD τ sig} {u : Unit} (h : 0 < O₃ c g u) : ∃ d w k, g = recvCell d w k := by
  obtain ⟨k, -, e⟩ := sum_pos _ _ _ h; exact ⟨_, _, _, e⟩
theorem O₀_pos {c : Dev nD} {g : GSem nD τ sig} {u : Unit} (h : 0 < O₀ c g u) : (∃ d w k, g = recvCell d w k) ∨ ∃ d, g = barCell d := by
  unfold O₀ at h
  rw [Pi.add_apply, Finsupp.add_apply] at h
  rcases Nat.add_pos_iff_pos_or_pos.mp h with h | h
  · exact .inl (O₁_pos h)
  · obtain ⟨k, -, e⟩ := sum_pos _ _ _ h; exact .inr ⟨_, e⟩

/-- A wait on a semaphore outside the exchange comes before everything owed; -/
theorem mayWait_stage (c : Dev nD) (s : SemLoc sig) (hs : which s = none) (O : CellTallies nD τ sig Unit)
    (hO : ∀ g u, 0 < O g u → (∃ d w k, g = recvCell d w k) ∨ ∃ d, g = barCell d) :
    (levAts L lv : sProp 𝕄) ⊢ MayWait (c : Thread nD τ) s () O :=
  MayOwe.of_cut (L := L) (lev := lv) 0 (fun p hp => by rw [Finset.mem_singleton.mp hp, L_tc]; exact Finset.mem_singleton_self _)
    (fun g u hg => by rcases hO g u hg with ⟨d, w, k, rfl⟩ | ⟨d, rfl⟩ <;> exact Finset.mem_singleton_self _)
    (fun p hp => by rw [Finset.mem_singleton.mp hp]; dsimp only [lv]; rw [hs])
    (fun g u hg => by
      rcases hO g u hg with ⟨d, w, k, rfl⟩ | ⟨d, rfl⟩
      · rw [lv_recv]; decide
      · rw [lv_bar]; decide)

/-- the wait on the barrier before the arrivals owed. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨d, w, k, rfl⟩ := O₁_pos hg; exact Finset.mem_singleton_self _)
    (fun p hp => by rw [Finset.mem_singleton.mp hp]; exact (lv_bar c ()).le)
    (fun g u hg => by obtain ⟨d, w, k, rfl⟩ := O₁_pos hg; rw [lv_recv]; decide)

end Cert.RunProof

end
-- ==== Proof.Steps.lean ====
/-
  The exchange's shared records and, for each of the body's lists of steps, the rule that runs it: the signals, the transfers of a wave, the
  waits for the arrivals with their additions, the waits for the transfers' ends, and the accumulation of a point's blocks.
-/
module

public import proofs.«01_k».proof.Proof.Protocol
public import Idealize.ShloMosaic.Lib.VecWindow

@[expose] public section

noncomputable section

namespace Cert.RunProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The records -/

/-- Every cell's invariant, under the name `K` gives it, and that every cell's round 0 was reached. -/
def records (K : Dev nD × CK → ℕ) : sProp 𝕄 :=
  iprop((bigSep Finset.univ fun cx : Dev nD × CK => cellInv ER (sched m) (K cx) (cellAt cx.1 cx.2))
    ∗ bigSep Finset.univ fun cx : Dev nD × CK => reached ER (cellAt cx.1 cx.2) 0)

instance records_persistent (K : Dev nD × CK → ℕ) : BI.Persistent (records m K) := by unfold records; infer_instance

theorem inv_each (K : Dev nD × CK → ℕ) (cx : Dev nD × CK) :
    (bigSep Finset.univ fun cx : Dev nD × CK => (cellInv ER (sched m) (K cx) (cellAt cx.1 cx.2) : sProp 𝕄)) ⊢ cellInv ER (sched m) (K cx) (cellAt cx.1 cx.2) :=
  bigSep_elim (Finset.mem_univ cx)
theorem reached_each (cx : Dev nD × CK) :
    (bigSep Finset.univ fun cx : Dev nD × CK => (reached ER (cellAt cx.1 cx.2) 0 : sProp 𝕄)) ⊢ reached ER (cellAt cx.1 cx.2) 0 :=
  bigSep_elim (Finset.mem_univ cx)

theorem inv_at (K : Dev nD × CK → ℕ) (c : Dev nD) (x : CK) : records m K ⊢ cellInv ER (sched m) (K (c, x)) (cellAt c x) := by
  unfold records
  iintro ⟨H, -⟩
  iapply (inv_each m K (c, x)); iexact H

theorem reached_at (K : Dev nD × CK → ℕ) (c : Dev nD) (x : CK) : records m K ⊢ reached ER (cellAt c x) 0 := by
  unfold records
  iintro ⟨-, H⟩
  iapply (reached_each (F := F) (c, x)); iexact H

/-! ## Lists of steps -/

/-- The weakest precondition of a program on device `c`. -/
abbrev WP (c : Dev nD) (Q : PUnit.{1} → sProp 𝕄) (p : P (F := F) PUnit) : sProp 𝕄 := wp frame (wpE (defs₀ (F := F)) 𝒱₀ (c : Thread nD τ) none) Set.univ p Q

theorem owedBar_cons (c : Dev nD) (O : CellTallies nD τ sig Unit) (k : Fin 7) (l : List (Fin 7)) :
    O + owedBar c (k :: l) = (O + owedBar c l) + tallyAt (barCell (tgt c k)) () 1 := by
  unfold owedBar; rw [List.map_cons, List.sum_cons, add_comm (tallyAt _ _ _), ← add_assoc]
theorem owedRecv_cons (c : Dev nD) (w : Fin 2) (O : CellTallies nD τ sig Unit) (k : Fin 7) (l : List (Fin 7)) :
    O + owedRecv c w (k :: l) = (O + owedRecv c w l) + tallyAt (recvCell (tgt c k) w k) () N := by
  unfold owedRecv; rw [List.map_cons, List.sum_cons, add_comm (tallyAt _ _ _), ← add_assoc]

/-- What signal number `k` hands over, as the signaller has it. -/
theorem signal_pay (c : Dev nD) (k : Fin 7) :
    iprop(slotAny (F := F) c 0 (opp k) ∗ slotAny (F := F) c 1 (opp k)) = (sched m).payload ((tgt c k : Thread nD τ), SemLoc.reg barS) 0 k := by
  refine Eq.trans ?_ (payload_at m (tgt c k) none k).symm
  show _ = barPay (tgt c k) k
  unfold barPay; rw [src_tgt]

section Steps

variable (K : Dev nD × CK → ℕ) (c : Dev nD) (Q : PUnit.{1} → sProp (MT nD τ sig Unit (Elt F) ℕ UU ℕ))

/-- The signals: each pays a unit off what is owed, and hands the two slots its receiver writes. -/
theorem wp_signalAll (Kp : P (F := F) PUnit) (O : CellTallies nD τ sig Unit) (W : Waits sig Unit) (l : List (Fin 7)) :
    iprop(records m K ∗ owes (c : Thread nD τ) (O + owedBar c l) W ∗ seps (fun k => dutyTok ER (barCell (tgt c k)) 0 k) l
        ∗ seps (fun k => iprop(slotAny (F := F) c 0 (opp k) ∗ slotAny (F := F) c 1 (opp k))) l)
      ⊢ iprop((owes (c : Thread nD τ) O W -∗ WP c Q Kp) -∗ WP c Q (signalAll (tgt c) Kp l)) := by
  induction l with
  | nil =>
    rw [show O + owedBar c [] = O from add_zero O]
    unfold signalAll
    iintro ⟨-, HO, -, -⟩ Hk
    iapply Hk; iexact HO
  | cons k l ih =>
    rw [owedBar_cons]
    unfold signalAll seps
    iintro ⟨#HR, HO, ⟨Ht, Hts⟩, ⟨Hs, Hss⟩⟩ Hk
    iapply (Rounds.wp_signal 𝒱₀ ER (sched m) (c : Thread nD τ) none (dst := (tgt c k : Thread nD τ)) (κ := K (tgt c k, none))
        (d := k) (show k ∈ (sched m).duties (barCell (tgt c k)) 0 by rw [duties_bar]; exact Finset.mem_univ _) ((amount_bar m (tgt c k) k).trans (by decide))
        () (O + owedBar c l) rfl) $$ [HO Ht Hs]
    · isplitr; · iapply (inv_at m K (tgt c k) none); iexact HR
      isplitl [HO]; · iexact HO
      isplitl [Ht]; · iexact Ht
      isplitl [Hs]
      · ihave Hp := (Entails.of_eq (signal_pay m c k)) $$ Hs
        iexact Hp
      iapply (reached_at m K (tgt c k) none); iexact HR
    iintro HO
    iapply ih $$ [HO Hts Hss]
    · isplitr; · iexact HR
      isplitl [HO]; · iexact HO
      isplitl [Hts]; · iexact Hts
      iexact Hss
    iexact Hk

/-- What one transfer takes, its two tokens aside: the lent part of the send buffer and the slot it writes. -/
theorem wp_sendOne (w : Fin 2) (k : Fin 7) (O : CellTallies nD τ sig Unit) (W : Waits sig Unit) (Kp : PUnit → P (F := F) PUnit) :
    iprop(records m K ∗ owes (c : Thread nD τ) (O + tallyAt (recvCell (tgt c k) w k) () N) W
        ∗ (dutyTok ER (sendCell c w k) 0 0 ∗ dutyTok ER (recvCell (tgt c k) w k) 0 0)
        ∗ slotAny (F := F) (tgt c k) w k ∗ owns (c : Thread nD τ) (sbufM w) (lent k.val) (snt m c w))
      ⊢ iprop(((cred (tallyAt (sendCell c w k) () N) ∗ owes (c : Thread nD τ) O W) -∗ WP c Q (Kp ⟨⟩))
          -∗ WP c Q (.op (.enqueueDma (sbufM w) (.remote (Dev.tc (tgt c k)) (slotM w k) (.dma (sendS w k))) (.dma (recvS w k))
              ((View.wordExact_bits rfl).reshape _ _) ((View.wordExact_bits rfl).reshape _ _) ⟨⟨rfl, Or.inl rfl⟩, trivial⟩) Kp)) := by
  unfold slotAny owns
  iintro ⟨#HR, HO, ⟨Ht1, Ht2⟩, ⟨%fd, Hd⟩, ⟨%fs, %hfs, Hs⟩⟩ Hk
  iapply (Rounds.wp_send_pointsTo 𝒱₀ ER (sched m) (c : Thread nD τ) none (κ₁ := K (c, some (false, w, k))) (κ₂ := K (tgt c k, some (true, w, k)))
    (r₁ := 0) (r₂ := 0) (d₁ := 0) (d₂ := 0) (fd := fd) (fs := fs)
    (by rw [duties_dma m c w k false]; exact Finset.mem_singleton_self _) (by rw [duties_dma m (tgt c k) w k true]; exact Finset.mem_singleton_self _)
    () () N rfl (amount_dma m c w k false 0) (amount_dma m (tgt c k) w k true 0) O rfl (W := W)
    (by rw [payload_at m c (some (false, w, k)) 0]; show _ ⊢ sendPay m c w k; unfold sendPay owns; iintro H; iexists fs; isplitr; · (ipureintro; exact hfs)
        iexact H)
    (by rw [payload_at m (tgt c k) (some (true, w, k)) 0]; show _ ⊢ recvPay m (tgt c k) w k; unfold recvPay owns; rw [src_tgt]; iintro H
        iexists ((slotM w k).view.write (Elt F) fd ((sbufM w).view.read (Elt F) fs) Finset.univ); isplitr
        · ipureintro; exact (View.read_write_univ _ _).trans hfs
        · iexact H)) $$ [HO Ht1 Ht2 Hd Hs]
  · isplitr; · iapply (inv_at m K c (some (false, w, k))); iexact HR
    isplitr; · iapply (inv_at m K (tgt c k) (some (true, w, k))); iexact HR
    isplitl [Hs]; · iexact Hs
    isplitl [Hd]; · iexact Hd
    isplitl [HO]; · iexact HO
    isplitl [Ht1]; · iexact Ht1
    isplitr; · iapply (reached_at m K c (some (false, w, k))); iexact HR
    isplitl [Ht2]; · iexact Ht2
    iapply (reached_at m K (tgt c k) (some (true, w, k))); iexact HR
  iexact Hk

/-- The transfers of wave `w` to a run of consecutive numbers from `n`. -/
theorem wp_sendAll (w : Fin 2) (Kp : P (F := F) PUnit) (O : CellTallies nD τ sig Unit) (W : Waits sig Unit) (l : List (Fin 7)) (n : ℕ)
    (hl : l.map Fin.val = List.range' n l.length) :
    iprop(records m K ∗ owes (c : Thread nD τ) (O + owedRecv c w l) W
        ∗ seps (fun k => iprop(dutyTok ER (sendCell c w k) 0 0 ∗ dutyTok ER (recvCell (tgt c k) w k) 0 0)) l
        ∗ seps (fun k => slotAny (F := F) (tgt c k) w k) l ∗ owns (c : Thread nD τ) (sbufM w) (rest n) (snt m c w))
      ⊢ iprop(((owes (c : Thread nD τ) O W ∗ owns (c : Thread nD τ) (sbufM w) (rest (n + l.length)) (snt m c w)
          ∗ seps (fun k => cred (tallyAt (sendCell c w k) () N)) l) -∗ WP c Q Kp) -∗ WP c Q (sendAll w (tgt c) Kp l)) := by
  induction l generalizing n with
  | nil =>
    rw [show O + owedRecv c w [] = O from add_zero O]
    unfold sendAll seps
    iintro ⟨-, HO, -, -, Hb⟩ Hk
    iapply Hk
    isplitl [HO]; · iexact HO
    isplitl [Hb]; · iexact Hb
    iempintro
  | cons k l ih =>
    rw [List.map_cons, List.length_cons, List.range'_succ, List.cons.injEq] at hl
    obtain ⟨hk, hl⟩ := hl
    unfold sendAll seps
    rw [owedRecv_cons]
    rw [show n + (k :: l).length = (n + 1) + l.length from by rw [List.length_cons]; omega]
    iintro ⟨#HR, HO, ⟨Ht, Hts⟩, ⟨Hs, Hss⟩, Hb⟩ Hk
    ihave Hb2 := (owns_halves (c : Thread nD τ) (sbufM w) (rest n) (snt m c w)).1 $$ Hb
    icases Hb2 with ⟨Hl, Hr⟩
    iapply (wp_sendOne m K c Q w k (O + owedRecv c w l) W _) $$ [HO Ht Hs Hl]
    · isplitr; · iexact HR
      isplitl [HO]; · iexact HO
      isplitl [Ht]; · iexact Ht
      isplitl [Hs]; · iexact Hs
      unfold lent; rw [hk]; iexact Hl
    iintro ⟨Hc, HO⟩
    iapply (ih (n + 1) hl) $$ [HO Hts Hss Hr]
    · isplitr; · iexact HR
      isplitl [HO]; · iexact HO
      isplitl [Hts]; · iexact Hts
      isplitl [Hss]; · iexact Hss
      iexact Hr
    iintro ⟨HO, Hb, Hcs⟩
    iapply Hk
    isplitl [HO]; · iexact HO
    isplitl [Hb]; · iexact Hb
    isplitl [Hc]; · iexact Hc
    iexact Hcs

/-- The parts lent from `n` on, and what is left, are what was left at `n`. -/
theorem rejoin (w : Fin 2) (l : List (Fin 7)) (n : ℕ) (hl : l.map Fin.val = List.range' n l.length) :
    iprop(seps (fun k => sendPay m c w k) l ∗ owns (c : Thread nD τ) (sbufM w) (rest (n + l.length)) (snt m c w))
      ⊢ owns (c : Thread nD τ) (sbufM w) (rest n) (snt m c w) := by
  induction l generalizing n with
  | nil => unfold seps; iintro ⟨-, H⟩; iexact H
  | cons k l ih =>
    rw [List.map_cons, List.length_cons, List.range'_succ, List.cons.injEq] at hl
    obtain ⟨hk, hl⟩ := hl
    unfold seps
    rw [show n + (k :: l).length = (n + 1) + l.length from by rw [List.length_cons]; omega]
    iintro ⟨⟨Hp, Hps⟩, Hb⟩
    ihave Hr := (ih (n + 1) hl) $$ [Hps Hb]
    · isplitl [Hps]; · iexact Hps
      iexact Hb
    iapply (owns_halves (c : Thread nD τ) (sbufM w) (rest n) (snt m c w)).2
    isplitl [Hp]
    · unfold sendPay lent; rw [hk]; iexact Hp
    iexact Hr

/-- A wait for a transfer's credit on one of the device's own cells, with nothing owed: the payload, and the cell closed. -/
theorem wp_waitOne (b : Bool) (w : Fin 2) (k : Fin 7) (x : DmaSem sig) (hx : csem (some (b, w, k)) = .dma x)
    {s₁ s₂ : Memref sig .tc .vmem S2x2048 .f32} {h₁ : s₁.view.WordExact} {h₂ : s₂.view.WordExact} (hN : s₂.view.dmaCredit = N)
    (W : Waits sig Unit) (Kp : PUnit → P (F := F) PUnit) :
    iprop(records m K ∗ owes (c : Thread nD τ) 0 W ∗ atPos ER (cellAt c (some (b, w, k))) 0 ∅ 0 ∗ cred (tallyAt (cellAt c (some (b, w, k))) () N))
      ⊢ iprop(((∃ W', owes (c : Thread nD τ) 0 W') ∗ semVal (cellAt c (some (b, w, k))) 0 ∗ payAt m c 0 (some (b, w, k)) -∗ WP c Q (Kp ⟨⟩))
          -∗ WP c Q (.op (.waitDma2 x s₁ s₂ h₁ h₂) Kp)) := by
  have hc : cellAt c (some (b, w, k)) = ((c : Thread nD τ), SemLoc.dma x) := Prod.ext rfl hx
  iintro ⟨#HR, HO, Hat, Hc⟩ Hk
  iapply (Rounds.wp_wait_rest_token 𝒱₀ ER (sched m) (c : Thread nD τ) none (κ := K (c, some (b, w, k)))
      (wpE_waitDma2_eq 𝒱₀ (c : Thread nD τ) none Set.univ) (Set.mem_univ _) () (O := 0) (W := W) (R := 0) (m := 0) (T := ∅)
      (show 0 + s₂.view.dmaCredit = (sched m).expect ((c : Thread nD τ), SemLoc.dma x) 0 by rw [Nat.zero_add, ← hc, expect_dma])) $$ [HO Hat Hc]
  · rw [← hc, hN]
    isplitr; · iapply (inv_at m K c (some (b, w, k))); iexact HR
    isplitl [Hc]; · iexact Hc
    isplitl [HO]; · iexact HO
    isplitr; · rw [MayWait_zero]; iempintro
    iexact Hat
  rw [← hc]
  iintro ⟨HO, Hat, -, Hpay⟩
  ihave Hp := (Entails.of_eq (rest_dma m c w k b)) $$ Hpay
  imod (Rounds.cell_close ER (sched m) (Set.mem_univ (K (c, some (b, w, k)))) (fun h => h) (R := 0 + 1) (duties_later m (cellAt c (some (b, w, k))))) $$ [Hat] with Hz
  · isplitr; · iapply (inv_at m K c (some (b, w, k))); iexact HR
    iexact Hat
  iapply Hk
  isplitl [HO]; · iexists _; iexact HO
  isplitl [Hz]; · iexact Hz
  iexact Hp

/-- The waits for the transfers' ends: the lent parts back. -/
theorem wp_doneAll (Kp : P (F := F) PUnit) (l : List (Fin 2 × Fin 7)) (W : Waits sig Unit) :
    iprop(records m K ∗ owes (c : Thread nD τ) 0 W ∗ seps (fun wk => atPos ER (sendCell c wk.1 wk.2) 0 ∅ 0) l
        ∗ seps (fun wk => cred (tallyAt (sendCell c wk.1 wk.2) () N)) l)
      ⊢ iprop(((∃ W', owes (c : Thread nD τ) 0 W') ∗ seps (fun wk => semVal (sendCell c wk.1 wk.2) 0) l ∗ seps (fun wk => sendPay m c wk.1 wk.2) l -∗ WP c Q Kp)
          -∗ WP c Q (doneAll Kp l)) := by
  induction l generalizing W with
  | nil =>
    unfold doneAll seps
    iintro ⟨-, HO, -, -⟩ Hk
    iapply Hk
    isplitl [HO]; · iexists _; iexact HO
    isplitr <;> iempintro
  | cons wk l ih =>
    obtain ⟨w, k⟩ := wk
    unfold doneAll seps
    iintro ⟨#HR, HO, ⟨Ha, Has⟩, ⟨Hc, Hcs⟩⟩ Hk
    iapply (wp_waitOne m K c Q false w k (sendS w k) rfl (credit_sbuf w) W _) $$ [HO Ha Hc]
    · isplitr; · iexact HR
      isplitl [HO]; · iexact HO
      isplitl [Ha]; · iexact Ha
      iexact Hc
    iintro ⟨⟨%W', HO⟩, Hz, Hp⟩
    ihave Hp := (Entails.of_eq (show payAt m c 0 (some (false, w, k)) = sendPay m c w k from rfl)) $$ Hp
    iapply (ih W') $$ [HO Has Hcs]
    · isplitr; · iexact HR
      isplitl [HO]; · iexact HO
      isplitl [Has]; · iexact Has
      iexact Hcs
    iintro ⟨HO, Hzs, Hps⟩
    iapply Hk
    isplitl [HO]; · iexact HO
    isplitl [Hz Hzs]
    · isplitl [Hz]; · iexact Hz
      iexact Hzs
    isplitl [Hp]; · iexact Hp
    iexact Hps

/-- A slot read through the rectangle the load uses, and as a plane of two rows, is what the slot reads. -/
theorem slot_read (w : Fin 2) (k : Fin 7) (f : (cc0_scratch2 : Ref sig .tc).ty.Contents (Elt F)) :
    shapeCast S2x2048 ((gatM.view.readAt (Elt F) (gatR w k).toLoadRect f : Vec F S1x1x2x2048 .f32)) shapeCasts_S1x1x2x2048_S2x2048
      = (slotM w k).view.read (Elt F) f := rfl

theorem slot_set (w : Fin 2) (k : Fin 7) : gatM.view.setOn (gatR w k).toLoadRect.set ⊆ (slotM w k).view.set :=
  (View.set_slice gatM.view (gatR w k)).symm.subset.trans (View.set_reshape _ _).symm.subset

/-- The waits for the arrivals: each slot added to the total. -/
theorem wp_recvAll (Kp : FVec F S2x2048 .f32 → P (F := F) PUnit) (l : List (Fin 2 × Fin 7)) (v : FVec F S2x2048 .f32) (W : Waits sig Unit) :
    iprop(records m K ∗ owes (c : Thread nD τ) 0 W ∗ seps (fun wk => atPos ER (recvCell c wk.1 wk.2) 0 ∅ 0) l
        ∗ seps (fun wk => cred (tallyAt (recvCell c wk.1 wk.2) () N)) l)
      ⊢ iprop(((∃ W', owes (c : Thread nD τ) 0 W') ∗ seps (fun wk => semVal (recvCell c wk.1 wk.2) 0) l ∗ seps (fun wk => slotAny (F := F) c wk.1 wk.2) l
            -∗ WP c Q (Kp (l.foldl (fun v wk => addf v (snt m (src c wk.2) wk.1 : FVec F S2x2048 .f32)) v)))
          -∗ WP c Q (recvAll Kp l v)) := by
  induction l generalizing W v with
  | nil =>
    unfold recvAll seps
    iintro ⟨-, HO, -, -⟩ Hk
    iapply Hk
    isplitl [HO]; · iexists _; iexact HO
    isplitr <;> iempintro
  | cons wk l ih =>
    obtain ⟨w, k⟩ := wk
    unfold recvAll seps
    iintro ⟨#HR, HO, ⟨Ha, Has⟩, ⟨Hc, Hcs⟩⟩ Hk
    iapply (wp_waitOne m K c Q true w k (recvS w k) rfl (credit_slot w k) W _) $$ [HO Ha Hc]
    · isplitr; · iexact HR
      isplitl [HO]; · iexact HO
      isplitl [Ha]; · iexact Ha
      iexact Hc
    iintro ⟨⟨%W', HO⟩, Hz, Hp⟩
    ihave Hp' := (Entails.of_eq (show payAt m c 0 (some (true, w, k)) = owns (c : Thread nD τ) (slotM w k) fullShare (snt m (src c k) w) from rfl)) $$ Hp
    unfold owns
    icases Hp' with ⟨%f, %hf, Hp⟩
    iapply (wp_load 𝒱₀ (c : Thread nD τ) none Set.univ (m := gatM) (slot_set w k)) $$ Hp; iintro Hp
    rw [slot_read, hf]
    iapply (ih _ W') $$ [HO Has Hcs]
    · isplitr; · iexact HR
      isplitl [HO]; · iexact HO
      isplitl [Has]; · iexact Has
      iexact Hcs
    iintro ⟨HO, Hzs, Hss⟩
    iapply Hk
    isplitl [HO]; · iexact HO
    isplitl [Hz Hzs]
    · isplitl [Hz]; · iexact Hz
      iexact Hzs
    isplitl [Hp]
    · unfold slotAny; iexists f; iexact Hp
    iexact Hss

/-- The accumulation of a point's two blocks. -/
theorem wp_accum (a1 a2 : Memref sig .tc .vmem S512x2048 .bf16) (x y : Vec F S512x2048 .bf16) (a : (cc0_scratch0 : Ref sig .tc).ty.Contents (Elt F))
    (Kp : P (F := F) PUnit) :
    iprop(owns (c : Thread nD τ) a1 fullShare x ∗ owns (c : Thread nD τ) a2 fullShare y ∗ ((c : Thread nD τ).loc cc0_scratch0 ↦{fullShare} a))
      ⊢ iprop((owns (c : Thread nD τ) a1 fullShare x ∗ owns (c : Thread nD τ) a2 fullShare y
            ∗ ((c : Thread nD τ).loc cc0_scratch0 ↦{fullShare} accStep x y a) -∗ WP c Q Kp) -∗ WP c Q (accum a1 a2 Kp)) := by
  unfold accum
  iintro ⟨H1, H2, Ha⟩ Hk
  unfold owns
  icases H1 with ⟨%f1, %hf1, H1⟩
  icases H2 with ⟨%f2, %hf2, H2⟩
  iapply (wp_load 𝒱₀ (c : Thread nD τ) none Set.univ (m := a1) (View.setOn_subset_set _ _)) $$ H1; iintro H1
  iapply (wp_load 𝒱₀ (c : Thread nD τ) none Set.univ (m := a2) (View.setOn_subset_set _ _)) $$ H2; iintro H2
  rw [show a1.view.readAt (Elt F) blkR.toLoadRect f1 = x from (View.readAt_full a1.view f1 _).trans hf1,
    show a2.view.readAt (Elt F) blkR.toLoadRect f2 = y from (View.readAt_full a2.view f2 _).trans hf2]
  iapply (wp_load 𝒱₀ (c : Thread nD τ) none Set.univ (m := accM) (Finset.subset_univ _)) $$ Ha; iintro Ha
  iapply (wp_load 𝒱₀ (c : Thread nD τ) none Set.univ (m := accM) (Finset.subset_univ _)) $$ Ha; iintro Ha
  iapply (wp_store 𝒱₀ (c : Thread nD τ) none Set.univ (m := accM) (r := accR0) (Mk := Finset.univ) (Finset.subset_univ _)) $$ Ha; iintro Ha
  iapply (wp_load 𝒱₀ (c : Thread nD τ) none Set.univ (m := accM) (Finset.subset_univ _)) $$ Ha; iintro Ha
  iapply (wp_load 𝒱₀ (c : Thread nD τ) none Set.univ (m := accM) (Finset.subset_univ _)) $$ Ha; iintro Ha
  iapply (wp_store 𝒱₀ (c : Thread nD τ) none Set.univ (m := accM) (r := accR1) (Mk := Finset.univ) (Finset.subset_univ _)) $$ Ha; iintro Ha
  iapply Hk
  isplitl [H1]
  · iexists f1; isplitr; · (ipureintro; exact hf1)
    iexact H1
  isplitl [H2]
  · iexists f2; isplitr; · (ipureintro; exact hf2)
    iexact H2
  unfold accStep accRow
  iexact Ha

end Steps

end Cert.RunProof

end
-- ==== Proof.Body.lean ====
/-
  The body at each of the four grid points: how the buffers split into the planes and slots the transfers move, what the device holds before
  each point, and that the point leads from one to the next.
-/
module

public import proofs.«01_k».proof.Proof.Steps
public import Idealize.ShloMosaic.Lib.Pipeline.Value

@[expose] public section

noncomputable section

namespace Cert.RunProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The buffers' parts -/

/-- A buffer of device `c`, whole, at some contents. -/
def any (c : Dev nD) (b : Ref sig .tc) : sProp 𝕄 := iprop(∃ f : Buf (Elt F) ((c : Thread nD τ).loc b), ((c : Thread nD τ).loc b) ↦{fullShare} f)
/-- Plane `w` of the send buffer, at some contents. -/
def planeAny (c : Dev nD) (w : Fin 2) : sProp 𝕄 :=
  iprop(∃ f, (sbufM w).view.loc (c : Thread nD τ) ↦[(sbufM w).view.set]{fullShare} f)

theorem slot_set_eq (w : Fin 2) (k : Fin 7) : (slotM w k).view.set = (gatR w k).set :=
  (View.set_reshape _ _).trans (View.set_slice_whole cc0_scratch2 (gatR w k))
theorem plane_set_eq (w : Fin 2) : (sbufM w).view.set = (bufR w).set :=
  (View.set_reshape _ _).trans (View.set_slice_whole cc0_scratch1 (bufR w))

theorem mem_slot (w : Fin 2) (k : Fin 7) (i : S2x7x2x2048.Idx) : i ∈ (gatR w k).set ↔ (i 0).val = w.val ∧ (i 1).val = k.val := by
  rw [Rect.mem_set_unit, Fin.forall_fin_succ, Fin.forall_fin_succ, Fin.forall_fin_two]
  show ((w.val ≤ (i 0).val ∧ (i 0).val < w.val + 1) ∧ (k.val ≤ (i 1).val ∧ (i 1).val < k.val + 1)
    ∧ (0 ≤ (i 2).val ∧ (i 2).val < 0 + 2) ∧ (0 ≤ (i 3).val ∧ (i 3).val < 0 + 2048)) ↔ _
  have h2 : (i 2).val < 2 := (i 2).isLt
  have h3 : (i 3).val < 2048 := (i 3).isLt
  omega
theorem mem_plane (w : Fin 2) (i : S2x2x2048.Idx) : i ∈ (bufR w).set ↔ (i 0).val = w.val := by
  rw [Rect.mem_set_unit, Fin.forall_fin_succ, Fin.forall_fin_two]
  show ((w.val ≤ (i 0).val ∧ (i 0).val < w.val + 1) ∧ (0 ≤ (i 1).val ∧ (i 1).val < 0 + 2) ∧ (0 ≤ (i 2).val ∧ (i 2).val < 0 + 2048)) ↔ _
  have h1 : (i 1).val < 2 := (i 1).isLt
  have h2 : (i 2).val < 2048 := (i 2).isLt
  omega

theorem slots_disjoint (b b' : Fin 2 × Fin 7) (h : b ≠ b') : Disjoint (gatR b.1 b.2).set (gatR b'.1 b'.2).set := by
  rw [Finset.disjoint_left]
  intro i hi hi'
  rw [mem_slot] at hi hi'
  exact h (Prod.ext (Fin.ext (hi.1.symm.trans hi'.1)) (Fin.ext (hi.2.symm.trans hi'.2)))
theorem slots_cover (c : Dev nD) :
    (Finset.univ : Finset (Fin 2 × Fin 7)).biUnion (fun b => ((gatR b.1 b.2).set : Finset (Idx ((c : Thread nD τ).loc cc0_scratch2)))) = Finset.univ := by
  ext i
  rw [Finset.mem_biUnion]
  exact ⟨fun _ => Finset.mem_univ i, fun _ => ⟨(i 0, i 1), Finset.mem_univ _, (mem_slot _ _ _).mpr ⟨rfl, rfl⟩⟩⟩
theorem planes_disjoint (b b' : Fin 2) (h : b ≠ b') : Disjoint (bufR b).set (bufR b').set := by
  rw [Finset.disjoint_left]
  intro i hi hi'
  rw [mem_plane] at hi hi'
  exact h (Fin.ext (hi.symm.trans hi'))
theorem planes_cover (c : Dev nD) :
    (Finset.univ : Finset (Fin 2)).biUnion (fun b => ((bufR b).set : Finset (Idx ((c : Thread nD τ).loc cc0_scratch1)))) = Finset.univ := by
  ext i
  rw [Finset.mem_biUnion]
  exact ⟨fun _ => Finset.mem_univ i, fun _ => ⟨i 0, Finset.mem_univ _, (mem_plane _ _).mpr rfl⟩⟩

theorem seps_congr {M : Type} [URA M] {I : Type} {Φ Ψ : I → sProp M} (h : ∀ i, Φ i = Ψ i) (l : List I) : seps Φ l = seps Ψ l := by
  rw [show Φ = Ψ from funext h]
/-- Along the fourteen numbers: along the seven of the first wave, and along the seven of the second. -/
theorem seps_wk14 {M : Type} [URA M] (Φ : Fin 2 × Fin 7 → sProp M) :
    seps Φ wk14 = iprop(seps (fun k => Φ (0, k)) ks7 ∗ seps (fun k => Φ (1, k)) ks7) := by
  rw [← bigSep_wk14, bigSep_univ_prod, bigSep_fin_two, bigSep_ks7, bigSep_ks7]; rfl
theorem seps_sep {M : Type} [URA M] (Φ Ψ : Fin 7 → sProp M) : seps (fun k => iprop(Φ k ∗ Ψ k)) ks7 = iprop(seps Φ ks7 ∗ seps Ψ ks7) := by
  rw [← bigSep_ks7, ← bigSep_ks7, ← bigSep_ks7, bigSep_sep']
theorem seps_rev {M : Type} [URA M] (Φ : Fin 7 → sProp M) : seps (fun k => Φ (opp k)) ks7 = seps Φ ks7 := by
  rw [← bigSep_ks7, ← bigSep_ks7, bigSep_univ_equiv Fin.revPerm Φ]; rfl

/-- The gathered partials, whole, are their slots, -/
theorem slots_eq (c : Dev nD) (f : Buf (Elt F) ((c : Thread nD τ).loc cc0_scratch2)) :
    (((c : Thread nD τ).loc cc0_scratch2 ↦{fullShare} f) : sProp 𝕄)
      = bigSep Finset.univ fun b : Fin 2 × Fin 7 => ((c : Thread nD τ).loc cc0_scratch2) ↦[(gatR b.1 b.2).set]{fullShare} f :=
  Ring.pointsTo_blocks (ℓ := (c : Thread nD τ).loc cc0_scratch2) (B := Fin 2 × Fin 7) (fun b => (gatR b.1 b.2).set) slots_disjoint (slots_cover c) f
theorem slots_join_eq (c : Dev nD) (f₀ : Buf (Elt F) ((c : Thread nD τ).loc cc0_scratch2)) :
    bigSep Finset.univ (fun b : Fin 2 × Fin 7 => iprop(∃ f, ((c : Thread nD τ).loc cc0_scratch2) ↦[(gatR b.1 b.2).set]{fullShare} f))
      ⊢ (iprop(∃ g, (c : Thread nD τ).loc cc0_scratch2 ↦{fullShare} g) : sProp 𝕄) :=
  Ring.pointsTo_blocks_join_exists (ℓ := (c : Thread nD τ).loc cc0_scratch2) (B := Fin 2 × Fin 7) (fun b => (gatR b.1 b.2).set) slots_disjoint (slots_cover c) f₀
/-- and the send buffer its planes. -/
theorem planes_eq (c : Dev nD) (f : Buf (Elt F) ((c : Thread nD τ).loc cc0_scratch1)) :
    (((c : Thread nD τ).loc cc0_scratch1 ↦{fullShare} f) : sProp 𝕄)
      = iprop((((c : Thread nD τ).loc cc0_scratch1) ↦[(bufR 0).set]{fullShare} f) ∗ (((c : Thread nD τ).loc cc0_scratch1) ↦[(bufR 1).set]{fullShare} f)) :=
  (Ring.pointsTo_blocks (ℓ := (c : Thread nD τ).loc cc0_scratch1) (B := Fin 2) (fun b => (bufR b).set) planes_disjoint (planes_cover c) f).trans (bigSep_fin_two _)
theorem planes_join_eq (c : Dev nD) (f₀ : Buf (Elt F) ((c : Thread nD τ).loc cc0_scratch1)) :
    bigSep Finset.univ (fun b : Fin 2 => iprop(∃ f, ((c : Thread nD τ).loc cc0_scratch1) ↦[(bufR b).set]{fullShare} f))
      ⊢ (iprop(∃ g, (c : Thread nD τ).loc cc0_scratch1 ↦{fullShare} g) : sProp 𝕄) :=
  Ring.pointsTo_blocks_join_exists (ℓ := (c : Thread nD τ).loc cc0_scratch1) (B := Fin 2) (fun b => (bufR b).set) planes_disjoint (planes_cover c) f₀

theorem slotAny_eq (c : Dev nD) (w : Fin 2) (k : Fin 7) :
    slotAny (F := F) c w k = iprop(∃ f, ((c : Thread nD τ).loc cc0_scratch2) ↦[(gatR w k).set]{fullShare} f) := by
  unfold slotAny; rw [slot_set_eq]
theorem slotAny_intro (c : Dev nD) (w : Fin 2) (k : Fin 7) (f : Buf (Elt F) ((c : Thread nD τ).loc cc0_scratch2)) :
    ((((c : Thread nD τ).loc cc0_scratch2) ↦[(gatR w k).set]{fullShare} f) : sProp 𝕄) ⊢ slotAny (F := F) c w k := by
  rw [slotAny_eq]; iintro H; iexists f; iexact H
theorem planeAny_eq (c : Dev nD) (w : Fin 2) :
    planeAny (F := F) c w = iprop(∃ f, ((c : Thread nD τ).loc cc0_scratch1) ↦[(bufR w).set]{fullShare} f) := by
  unfold planeAny; rw [plane_set_eq]

/-- The gathered partials split into their slots, -/
theorem slots_split (c : Dev nD) : any (F := F) c cc0_scratch2 ⊢ seps (fun wk => slotAny (F := F) c wk.1 wk.2) wk14 := by
  rw [← bigSep_wk14]
  have h (f : Buf (Elt F) ((c : Thread nD τ).loc cc0_scratch2)) : (((c : Thread nD τ).loc cc0_scratch2 ↦{fullShare} f) : sProp 𝕄)
      ⊢ bigSep Finset.univ fun wk : Fin 2 × Fin 7 => slotAny (F := F) c wk.1 wk.2 :=
    (Entails.of_eq (slots_eq c f)).trans (bigSep_mono fun wk _ => slotAny_intro c wk.1 wk.2 f)
  unfold any
  iintro ⟨%f, H⟩
  iapply (h f); iexact H
include m in
/-- and the slots join again. -/
theorem slots_join (c : Dev nD) : seps (fun wk => slotAny (F := F) c wk.1 wk.2) wk14 ⊢ any (F := F) c cc0_scratch2 := by
  rw [← bigSep_wk14, bigSep_congr fun wk _ => slotAny_eq (F := F) c wk.1 wk.2]
  exact slots_join_eq c (m ((c : Thread nD τ).loc cc0_scratch2))
include m in
theorem planes_join (c : Dev nD) : iprop(planeAny (F := F) c 0 ∗ planeAny (F := F) c 1) ⊢ any (F := F) c cc0_scratch1 := by
  refine (Entails.of_eq (bigSep_fin_two (planeAny (F := F) c)).symm).trans ?_
  rw [bigSep_congr fun w _ => planeAny_eq (F := F) c w]
  exact planes_join_eq c (m ((c : Thread nD τ).loc cc0_scratch1))
theorem plane_of_owns (c : Dev nD) (w : Fin 2) (X : S2x2048.Idx → Elt F .f32) : owns (c : Thread nD τ) (sbufM w) fullShare X ⊢ planeAny (F := F) c w := by
  unfold owns planeAny; iintro ⟨%f, -, H⟩; iexists f; iexact H

/-- A plane of the send buffer read as two rows: the plane of the buffer, its one leading place dropped. -/
theorem plane_read (w : Fin 2) (f : (cc0_scratch1 : Ref sig .tc).ty.Contents (Elt F)) :
    (sbufM w).view.read (Elt F) f = shapeCast S2x2048 ((bufM.access (bufR w)).read (Elt F) f : Vec F S1x2x2048 .f32) shapeCasts_S1x2x2048_S2x2048 := rfl
/-- What a store of a plane leaves the plane reading. -/
theorem plane_write (w : Fin 2) (f : (cc0_scratch1 : Ref sig .tc).ty.Contents (Elt F)) (v : FVec F S2x2048 .f32) :
    (sbufM w).view.read (Elt F) ((bufM.access (bufR w)).write (Elt F) f (shapeCast S1x2x2048 v shapeCasts_S2x2048_S1x2x2048) Finset.univ) = v := by
  rw [plane_read, View.read_write_univ]
  exact shapeCast_shapeCast v _ _
theorem plane_set (w : Fin 2) : (bufM.access (bufR w)).set ⊆ (sbufM w).view.set := (View.set_reshape _ _).symm.subset
theorem plane_setOn (w : Fin 2) : bufM.view.setOn (bufR w).toLoadRect.set ⊆ (sbufM w).view.set :=
  (View.set_slice bufM.view (bufR w)).symm.subset.trans (plane_set w)

/-! ## Between the points -/

/-- The records and the order of the cells. -/
def ctx : sProp 𝕄 := iprop((∃ K, records m K) ∗ levAts L lv)
/-- A device's positions at its transfers' ends and at its arrivals, -/
def posX (c : Dev nD) : sProp 𝕄 :=
  iprop(seps (fun wk => atPos ER (sendCell c wk.1 wk.2) 0 ∅ 0) wk14 ∗ seps (fun wk => atPos ER (recvCell c wk.1 wk.2) 0 ∅ 0) wk14)
/-- the tokens of its signals, and of the transfers of a wave; -/
def tokB (c : Dev nD) : sProp 𝕄 := seps (fun k => dutyTok ER (barCell (tgt c k)) 0 k) ks7
def tokX (c : Dev nD) (w : Fin 2) : sProp 𝕄 := seps (fun k => iprop(dutyTok ER (sendCell c w k) 0 0 ∗ dutyTok ER (recvCell (tgt c k) w k) 0 0)) ks7
/-- the credit of its barrier, and of its arrivals. -/
def credB (c : Dev nD) : sProp 𝕄 := cred (tallyAt (barCell c) () 7)
def credR (c : Dev nD) : sProp 𝕄 := seps (fun wk => cred (tallyAt (recvCell c wk.1 wk.2) () N)) wk14

/-- What a device keeps until the first wave. -/
def keep (c : Dev nD) : sProp 𝕄 := iprop(ctx m ∗ atPos ER (barCell c) 0 ∅ 0 ∗ posX (F := F) c ∗ tokX (F := F) c 0 ∗ tokX (F := F) c 1 ∗ credB (F := F) c ∗ credR (F := F) c)

def start (c : Dev nD) : sProp 𝕄 := iprop(keep m c ∗ tokB (F := F) c)
def Φ₀ (c : Dev nD) : sProp 𝕄 := iprop(start m c ∗ any (F := F) c cc0_scratch0 ∗ any (F := F) c cc0_scratch1 ∗ any (F := F) c cc0_scratch2)
/-- After `t` points and before the first wave: the accumulator, and the send buffer as it was; the slots are the neighbours'. -/
def Φm (c : Dev nD) (t : ℕ) : sProp 𝕄 := iprop(keep m c ∗ ((c : Thread nD τ).loc cc0_scratch0 ↦{fullShare} accAt m c t) ∗ any (F := F) c cc0_scratch1)
/-- After the first wave. -/
def Φ₃ (c : Dev nD) : sProp 𝕄 :=
  iprop(ctx m ∗ semVal (barCell c) 0 ∗ posX (F := F) c ∗ tokX (F := F) c 1 ∗ credR (F := F) c
    ∗ seps (fun k => slotAny (F := F) (tgt c k) 1 k) ks7 ∗ seps (fun k => cred (tallyAt (sendCell c 0 k) () N)) ks7
    ∗ ((c : Thread nD τ).loc cc0_scratch0 ↦{fullShare} accAt m c 3) ∗ owns (c : Thread nD τ) (sbufM 0) (rest 7) (snt m c 0) ∗ planeAny (F := F) c 1)
/-- At the end: the buffers whole again, every cell closed. -/
def Φ₄ (c : Dev nD) : sProp 𝕄 :=
  iprop(semVal (barCell c) 0 ∗ seps (fun wk => semVal (sendCell c wk.1 wk.2) 0) wk14 ∗ seps (fun wk => semVal (recvCell c wk.1 wk.2) 0) wk14
    ∗ any (F := F) c cc0_scratch0 ∗ any (F := F) c cc0_scratch1 ∗ any (F := F) c cc0_scratch2)

/-- What is owed, whatever was waited for. -/
abbrev owing (c : Dev nD) (O : CellTallies nD τ sig Unit) : sProp 𝕄 := iprop(∃ W, owes (c : Thread nD τ) O W)

theorem src_opp (c : Dev nD) (k : Fin 7) : src c (opp k) = tgt c k := by revert c k; decide

/-- What the barrier's units hand over, by the numbers of the transfers that use it. -/
theorem bar_slots (c : Dev nD) :
    bigSep Finset.univ (barPay (F := F) c) = iprop(seps (fun k => slotAny (F := F) (tgt c k) 0 k) ks7 ∗ seps (fun k => slotAny (F := F) (tgt c k) 1 k) ks7) := by
  rw [bigSep_ks7, ← seps_rev, ← seps_sep]
  refine seps_congr (fun k => ?_) _
  show barPay c (opp k) = _
  unfold barPay
  rw [src_opp, show opp (opp k) = k from Fin.rev_rev k]

section Points

variable (c : Dev nD) (a1 a2 : Memref sig .tc .vmem S512x2048 .bf16)

/-- A point's two blocks, in place. -/
abbrev blks (t : ℕ) : sProp (MT nD τ sig Unit (Elt F) ℕ UU ℕ) :=
  iprop(owns (c : Thread nD τ) a1 fullShare (xsAt m c t) ∗ owns (c : Thread nD τ) a2 fullShare (dysAt m c t))

/-- A program that returns. -/
theorem ret_intro (Q : PUnit.{1} → sProp 𝕄) : Q ⟨⟩ ⊢ WP c Q (.ret ⟨⟩) := by
  unfold WP; rw [wp_ret]; iintro H; imodintro; iexact H
theorem owns_eq {sp : Space} {s : Shape} {e : EltTy} (b : Memref sig .tc sp s e) (q : PosShare TreeShare) (X : s.Idx → Elt F e) :
    (owns (c : Thread nD τ) b q X : sProp 𝕄) = iprop(∃ f, ⌜b.view.read (Elt F) f = X⌝ ∗ (b.view.loc (c : Thread nD τ) ↦[b.view.set]{q} f)) := rfl
theorem hz : (![0, 0] : Fin 2 → ℕ) = fun _ => 0 := funext fun a => by fin_cases a <;> rfl
theorem acc_read (f : (cc0_scratch0 : Ref sig .tc).ty.Contents (Elt F)) : accM.view.readAt (Elt F) accR.toLoadRect f = f :=
  Memref.readAt_unit_zero (Elt F) cc0_scratch0 hz _ f

/-- A point that only accumulates. -/
theorem point_mid (t : ℕ) :
    iprop(Φm m c t ∗ owing (F := F) c (O₁ c) ∗ blks m c a1 a2 t)
      ⊢ WP c (fun _ => iprop(Φm m c (t + 1) ∗ owing (F := F) c (O₁ c) ∗ blks m c a1 a2 t)) (accum a1 a2 (.ret ⟨⟩)) := by
  unfold Φm
  iintro ⟨⟨Hk, Ha, Hb⟩, HO, H1, H2⟩
  iapply (wp_accum c _ a1 a2 (xsAt m c t) (dysAt m c t) (accAt m c t) _) $$ [Ha H1 H2]
  · isplitl [H1]; · iexact H1
    isplitl [H2]; · iexact H2
    iexact Ha
  iintro ⟨H1, H2, Ha⟩
  iapply (ret_intro c _)
  isplitl [Hk Ha Hb]
  · isplitl [Hk]; · iexact Hk
    isplitl [Ha]; · iexact Ha
    iexact Hb
  isplitl [HO]; · iexact HO
  isplitl [H1]; · iexact H1
  iexact H2

/-- The first point. -/
theorem point_first :
    iprop(Φ₀ m c ∗ owing (F := F) c (O₀ c) ∗ blks m c a1 a2 0)
      ⊢ WP c (fun _ => iprop(Φm m c 1 ∗ owing (F := F) c (O₁ c) ∗ blks m c a1 a2 0)) (progFirst (tgt c) a1 a2) := by
  unfold Φ₀ start keep ctx progFirst O₀
  iintro ⟨⟨⟨⟨⟨⟨%K, #HR⟩, #Hlev⟩, Hk⟩, Htb⟩, Hacc, Hbuf, Hgat⟩, ⟨%W, HO⟩, H1, H2⟩
  unfold any
  icases Hacc with ⟨%f0, Ha⟩
  iapply (wp_load 𝒱₀ (c : Thread nD τ) none Set.univ (m := accM) (Finset.subset_univ _)) $$ Ha; iintro Ha
  iapply (wp_store 𝒱₀ (c : Thread nD τ) none Set.univ (m := accM) (r := accR) (Mk := Finset.univ) (Finset.subset_univ _)) $$ Ha; iintro Ha
  rw [show (accM.access accR).write (Elt F) f0 (k0_pay3 (F := F)) Finset.univ = (k0_pay3 (F := F)) from
    Memref.write_access_unit_zero_univ (Elt F) cc0_scratch0 hz _ f0 _]
  ihave Hsl := (slots_split (F := F) c) $$ [Hgat]
  · unfold any; iexact Hgat
  ihave Hsl := (Entails.of_eq ((seps_wk14 (fun wk => slotAny (F := F) c wk.1 wk.2)).trans
    ((congrArg₂ _ (seps_rev (fun k => slotAny (F := F) c 0 k)).symm (seps_rev (fun k => slotAny (F := F) c 1 k)).symm).trans
      (seps_sep (fun k => slotAny (F := F) c 0 (opp k)) (fun k => slotAny (F := F) c 1 (opp k))).symm))) $$ Hsl
  iapply (wp_signalAll m K c _ _ (O₁ c) W ks7) $$ [HO Htb Hsl]
  · isplitr; · iexact HR
    isplitl [HO]; · iexact HO
    isplitl [Htb]; · unfold tokB; iexact Htb
    iexact Hsl
  iintro HO
  iapply (wp_accum c _ a1 a2 (xsAt m c 0) (dysAt m c 0) (accAt m c 0) _) $$ [Ha H1 H2]
  · isplitl [H1]; · iexact H1
    isplitl [H2]; · iexact H2
    iexact Ha
  iintro ⟨H1, H2, Ha⟩
  iapply (ret_intro c _)
  unfold Φm keep ctx any
  isplitl [Hk Ha Hbuf]
  · isplitl [Hk]
    · isplitr
      · isplitr; · iexists K; iexact HR
        iexact Hlev
      iexact Hk
    isplitl [Ha]; · iexact Ha
    iexact Hbuf
  isplitl [HO]; · iexists W; iexact HO
  isplitl [H1]; · iexact H1
  iexact H2

/-- The point of the first wave. -/
theorem point_wave0 :
    iprop(Φm m c 2 ∗ owing (F := F) c (O₁ c) ∗ blks m c a1 a2 2)
      ⊢ WP c (fun _ => iprop(Φ₃ m c ∗ owing (F := F) c (O₃ c) ∗ blks m c a1 a2 2)) (progWave0 (tgt c) a1 a2) := by
  unfold Φm keep ctx progWave0
  iintro ⟨⟨⟨⟨⟨%K, #HR⟩, #Hlev⟩, Hat, Hpos, Ht0, Ht1, HcB, HcR⟩, Ha, Hbuf⟩, ⟨%W, HO⟩, H1, H2⟩
  iapply (wp_accum c _ a1 a2 (xsAt m c 2) (dysAt m c 2) (accAt m c 2) _) $$ [Ha H1 H2]
  · isplitl [H1]; · iexact H1
    isplitl [H2]; · iexact H2
    iexact Ha
  iintro ⟨H1, H2, Ha⟩
  ihave Ha := (Entails.of_eq (show ((c : Thread nD τ).loc cc0_scratch0 ↦{fullShare} accStep (xsAt m c 2) (dysAt m c 2) (accAt m c 2) : sProp 𝕄)
    = ((c : Thread nD τ).loc cc0_scratch0 ↦{fullShare} accAt m c 3) from rfl)) $$ Ha
  iapply (Rounds.wp_wait_rest_token 𝒱₀ ER (sched m) (c : Thread nD τ) none (κ := K (c, none))
      (wpE_semWait_eq 𝒱₀ (c : Thread nD τ) none Set.univ) (Set.mem_univ _) () (O := O₁ c) (W := W) (R := 0) (m := 0) (T := ∅)
      (show 0 + (7#32).toNat = (sched m).expect (barCell c) 0 by rw [expect_bar]; rfl)) $$ [HcB HO Hat]
  · isplitr; · iapply (inv_at m K c none); iexact HR
    isplitl [HcB]; · unfold credB; iexact HcB
    isplitl [HO]; · iexact HO
    isplitr; · iapply (mayWait_bar (F := F) c); iexact Hlev
    iexact Hat
  iintro ⟨HO, Hat, -, Hpay⟩
  ihave Hp := (Entails.of_eq ((show bigSep ((sched m).duties ((c : Thread nD τ), SemLoc.reg barS) 0 \ ∅) ((sched m).payload ((c : Thread nD τ), SemLoc.reg barS) 0)
    = bigSep Finset.univ (barPay (F := F) c) from rest_bar m c).trans (bar_slots (F := F) c))) $$ Hpay
  icases Hp with ⟨Hs0, Hs1⟩
  imod (Rounds.cell_close ER (sched m) (Set.mem_univ (K (c, none))) (fun h => h) (R := 0 + 1) (duties_later m (barCell c))) $$ [Hat] with HzB
  · isplitr; · iapply (inv_at m K c none); iexact HR
    iexact Hat
  iapply (wp_load 𝒱₀ (c : Thread nD τ) none Set.univ (m := accM) (Finset.subset_univ _)) $$ Ha; iintro Ha
  rw [acc_read]
  unfold any
  icases Hbuf with ⟨%fb, Hb⟩
  iapply (wp_load 𝒱₀ (c : Thread nD τ) none Set.univ (m := bufM) (Finset.subset_univ _)) $$ Hb; iintro Hb
  iapply (wp_store 𝒱₀ (c : Thread nD τ) none Set.univ (m := bufM) (r := bufR 0) (Mk := Finset.univ) (Finset.subset_univ _)) $$ Hb; iintro Hb
  ihave Hb := (Entails.of_eq (planes_eq c ((bufM.access (bufR 0)).write (Elt F) fb (k0_pay4 (accAt m c 3)) Finset.univ))) $$ Hb
  icases Hb with ⟨Hb0, Hb1⟩
  iapply (wp_sendAll m K c _ 0 _ (O₃ c) _ ks7 0 rfl) $$ [HO Ht0 Hs0 Hb0]
  · isplitr; · iexact HR
    isplitl [HO]; · unfold O₁ O₃; iexact HO
    isplitl [Ht0]; · unfold tokX; iexact Ht0
    isplitl [Hs0]; · iexact Hs0
    unfold owns rest
    iexists ((bufM.access (bufR 0)).write (Elt F) fb (k0_pay4 (accAt m c 3)) Finset.univ)
    isplitr
    · ipureintro; exact plane_write 0 fb (accAt m c 3)
    rw [plane_set_eq]; iexact Hb0
  iintro ⟨HO, Hb0, Hcs⟩
  iapply (ret_intro c _)
  unfold Φ₃ ctx
  isplitr [HO H1 H2]
  · isplitr
    · isplitr; · iexists K; iexact HR
      iexact Hlev
    isplitl [HzB]; · iexact HzB
    isplitl [Hpos]; · iexact Hpos
    isplitl [Ht1]; · iexact Ht1
    isplitl [HcR]; · iexact HcR
    isplitl [Hs1]; · iexact Hs1
    isplitl [Hcs]; · iexact Hcs
    isplitl [Ha]; · iexact Ha
    isplitl [Hb0]; · iexact Hb0
    rw [planeAny_eq]; iexists _; iexact Hb1
  isplitl [HO]; · iexists _; iexact HO
  isplitl [H1]; · iexact H1
  iexact H2

/-- The last point. -/
theorem point_wave1 (a4 : Memref sig .tc .vmem S2x2048 .f32) (Z : S2x2048.Idx → Elt F .f32) :
    iprop(Φ₃ m c ∗ owing (F := F) c (O₃ c) ∗ blks m c a1 a2 3 ∗ owns (c : Thread nD τ) a4 fullShare Z)
      ⊢ WP c (fun _ => iprop(Φ₄ (F := F) c ∗ owing (F := F) c 0 ∗ blks m c a1 a2 3 ∗ owns (c : Thread nD τ) a4 fullShare (totAt m c))) (progWave1 (tgt c) a1 a2 a4) := by
  unfold Φ₃ ctx posX progWave1
  iintro ⟨⟨⟨⟨%K, #HR⟩, #Hlev⟩, HzB, ⟨Hps, Hpr⟩, Ht1, HcR, Hs1, Hcs, Ha, Hb0, Hb1⟩, ⟨%W, HO⟩, ⟨H1, H2⟩, H4⟩
  iapply (wp_accum c _ a1 a2 (xsAt m c 3) (dysAt m c 3) (accAt m c 3) _) $$ [Ha H1 H2]
  · isplitl [H1]; · iexact H1
    isplitl [H2]; · iexact H2
    iexact Ha
  iintro ⟨H1, H2, Ha⟩
  ihave Ha := (Entails.of_eq (show ((c : Thread nD τ).loc cc0_scratch0 ↦{fullShare} accStep (xsAt m c 3) (dysAt m c 3) (accAt m c 3) : sProp 𝕄)
    = ((c : Thread nD τ).loc cc0_scratch0 ↦{fullShare} accAt m c 4) from rfl)) $$ Ha
  iapply (wp_load 𝒱₀ (c : Thread nD τ) none Set.univ (m := accM) (Finset.subset_univ _)) $$ Ha; iintro Ha
  rw [acc_read]
  unfold planeAny
  ihave Hb0 := (Entails.of_eq (owns_eq (F := F) c (sbufM 0) (rest 7) (snt m c 0))) $$ Hb0
  ihave H4 := (Entails.of_eq (owns_eq (F := F) c a4 fullShare Z)) $$ H4
  icases Hb0 with ⟨%fs, %hfs, Hb0⟩
  icases Hb1 with ⟨%fb, Hb1⟩
  icases H4 with ⟨%g, %hg, H4⟩
  iapply (wp_load 𝒱₀ (c : Thread nD τ) none Set.univ (m := bufM) (plane_setOn 0)) $$ Hb0; iintro Hb0
  iapply (wp_load 𝒱₀ (c : Thread nD τ) none Set.univ (m := bufM) (plane_setOn 1)) $$ Hb1; iintro Hb1
  iapply (wp_store 𝒱₀ (c : Thread nD τ) none Set.univ (m := bufM) (r := bufR 1) (Mk := Finset.univ) (plane_set 1)) $$ Hb1; iintro Hb1
  iapply (wp_sendAll m K c _ 1 _ 0 _ ks7 0 rfl) $$ [HO Ht1 Hs1 Hb1]
  · isplitr; · iexact HR
    isplitl [HO]; · rw [zero_add]; unfold O₃; iexact HO
    isplitl [Ht1]; · unfold tokX; iexact Ht1
    isplitl [Hs1]; · iexact Hs1
    unfold owns rest
    iexists _
    isplitr
    rotate_left
    · iexact Hb1
    · ipureintro
      refine (plane_write 1 fb _).trans ?_
      show subf (accAt m c 4 : FVec F S2x2048 .f32) ((sbufM 0).view.read (Elt F) fs) = snt m c 1
      rw [hfs]; rfl
  iintro ⟨HO, Hb1, Hcs1⟩
  iapply (wp_load 𝒱₀ (c : Thread nD τ) none Set.univ (m := accM) (Finset.subset_univ _)) $$ Ha; iintro Ha
  rw [acc_read]
  iapply (wp_recvAll m K c _ _ wk14 _ _) $$ [HO Hpr HcR]
  · isplitr; · iexact HR
    isplitl [HO]; · iexact HO
    isplitl [Hpr]; · iexact Hpr
    unfold credR; iexact HcR
  iintro ⟨⟨%W', HO⟩, Hzr, Hsl⟩
  iapply (wp_doneAll m K c _ _ wk14 W') $$ [HO Hps Hcs Hcs1]
  · isplitr; · iexact HR
    isplitl [HO]; · iexact HO
    isplitl [Hps]; · iexact Hps
    iapply (Entails.of_eq (seps_wk14 (fun wk => (cred (tallyAt (sendCell c wk.1 wk.2) () N) : sProp 𝕄))).symm)
    isplitl [Hcs]; · iexact Hcs
    iexact Hcs1
  iintro ⟨HO, Hzs, Hsp⟩
  iapply (wp_load 𝒱₀ (c : Thread nD τ) none Set.univ (m := a4) (View.setOn_subset_set _ _)) $$ H4; iintro H4
  iapply (wp_store 𝒱₀ (c : Thread nD τ) none Set.univ (m := a4) (r := accR) (Mk := Finset.univ) (View.set_slice_subset _ _)) $$ H4; iintro H4
  iapply (ret_intro c _)
  ihave Hsp := (Entails.of_eq (seps_wk14 (fun wk => sendPay m c wk.1 wk.2))) $$ Hsp
  icases Hsp with ⟨Hsp0, Hsp1⟩
  ihave Hb0 := (rejoin m c 0 ks7 0 rfl) $$ [Hsp0 Hb0]
  · isplitl [Hsp0]; · iexact Hsp0
    unfold owns; iexists fs; isplitr; · (ipureintro; exact hfs)
    iexact Hb0
  ihave Hb1 := (rejoin m c 1 ks7 0 rfl) $$ [Hsp1 Hb1]
  · isplitl [Hsp1]; · iexact Hsp1
    unfold owns; iexact Hb1
  isplitr [HO H1 H2 H4]
  · unfold Φ₄
    isplitl [HzB]; · iexact HzB
    isplitl [Hzs]; · iexact Hzs
    isplitl [Hzr]; · iexact Hzr
    isplitl [Ha]; · unfold any; iexists _; iexact Ha
    isplitl [Hb0 Hb1]
    · iapply (planes_join m c)
      isplitl [Hb0]
      · iapply (plane_of_owns (F := F) c 0 (snt m c 0)); iexact Hb0
      · iapply (plane_of_owns (F := F) c 1 (snt m c 1)); iexact Hb1
    iapply (slots_join m c); iexact Hsl
  isplitl [HO]; · iexact HO
  isplitl [H1 H2]
  · isplitl [H1]; · iexact H1
    iexact H2
  iapply (Entails.of_eq (owns_eq (F := F) c a4 fullShare (totAt m c)).symm)
  iexists _
  isplitr
  rotate_left
  · iexact H4
  · ipureintro
    exact (View.readAt_full a4.view _ _).symm.trans (View.read_write_univ _ _)

end Points

end Cert.RunProof

end
-- ==== Proof.Oblig.lean ====
/-
  The pipeline's data — what each window holds after each point, what the device holds and owes between the points — and that the body meets it
  at every point.
-/
module

public import proofs.«01_k».proof.Proof.Body
public import proofs.«01_k».proof.Proof.Gen.KernelIdeal.Points
public import proofs.«01_k».proof.Proof.Gen.KernelIdeal.Launch

@[expose] public section

noncomputable section

namespace Cert.RunProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What a device holds, and owes, after `t` points. -/
def held (c : Dev nD) : ℕ → sProp 𝕄
  | 0 => Φ₀ m c | 1 => Φm m c 1 | 2 => Φm m c 2 | 3 => Φ₃ m c | _ => Φ₄ (F := F) c
def owedAt (c : Dev nD) : ℕ → CellTallies nD τ sig Unit
  | 0 => O₀ c | 1 => O₁ c | 2 => O₁ c | 3 => O₃ c | _ => 0

def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => totAt m c
  Φ t := held m c t.val
  q _ := fullShare
  owed t := owedAt c t.val

theorem before_0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun t => rfl) t d).trans rfl

/-- What the body must hand back of the result's window at point `t`. -/
def res (c : Dev nD) (t : Fin cfg0.N) : sProp 𝕄 :=
  match cfg0.idle 3 (cfg0.grid.coords t) with
  | true => match (cfg0.win 3).flush t with
    | false => iprop(∃ d, owns (c : Thread nD τ) (st0_3 t) fullShare ((dats m 0 c).before 3 t d))
    | true => owns (c : Thread nD τ) (st0_3 t) fullShare ((dats m 0 c).after 3 t)
  | false => owns (c : Thread nD τ) (st0_3 t) fullShare ((dats m 0 c).after 3 t)

/-- A point's obligation, from the point's own theorem. -/
theorem oblig_of (c : Dev nD) (t : Fin cfg0.N)
    (h : iprop(held m c t.val ∗ owing (F := F) c (owedAt c t.val) ∗ blks m c (st0_0 t) (st0_1 t) t.val
        ∗ (∃ d, owns (c : Thread nD τ) (st0_3 t) fullShare ((dats m 0 c).before 3 t d)))
      ⊢ WP c (fun _ => iprop(held m c (t.val + 1) ∗ owing (F := F) c (owedAt c (t.val + 1)) ∗ blks m c (st0_0 t) (st0_1 t) t.val ∗ res m c t)) (bodyAt0 (F := F) t)) :
    iprop((dats m 0 c).Φ t.castSucc ∗ (dats m 0 c).owesAt () t.castSucc
        ∗ (∃ d, owns (c : Thread nD τ) (st0_0 t) fullShare ((dats m 0 c).before 0 t d)) ∗ (∃ d, owns (c : Thread nD τ) (st0_1 t) fullShare ((dats m 0 c).before 1 t d))
        ∗ (∃ d, owns (c : Thread nD τ) (st0_2 t) fullShare ((dats m 0 c).before 2 t d)) ∗ (∃ d, owns (c : Thread nD τ) (st0_3 t) fullShare ((dats m 0 c).before 3 t d)))
      ⊢ WP c (fun _ => iprop((dats m 0 c).Φ t.succ ∗ (dats m 0 c).owesAt () t.succ
        ∗ owns (c : Thread nD τ) (st0_0 t) fullShare ((dats m 0 c).after 0 t) ∗ owns (c : Thread nD τ) (st0_1 t) fullShare ((dats m 0 c).after 1 t)
        ∗ owns (c : Thread nD τ) (st0_2 t) fullShare ((dats m 0 c).after 2 t) ∗ res m c t)) (bodyAt0 (F := F) t) := by
  have hx : xsAt m c t.val = iblk m c 0 t := by unfold xsAt; rw [pt_val]
  have hy : dysAt m c t.val = iblk m c 1 t := by unfold dysAt; rw [pt_val]
  unfold blks at h
  rw [hx, hy] at h
  have h' : iprop((dats m 0 c).Φ t.castSucc ∗ (dats m 0 c).owesAt () t.castSucc
        ∗ (∃ d, owns (c : Thread nD τ) (st0_0 t) fullShare ((dats m 0 c).before 0 t d)) ∗ (∃ d, owns (c : Thread nD τ) (st0_1 t) fullShare ((dats m 0 c).before 1 t d))
        ∗ (∃ d, owns (c : Thread nD τ) (st0_2 t) fullShare ((dats m 0 c).before 2 t d)) ∗ (∃ d, owns (c : Thread nD τ) (st0_3 t) fullShare ((dats m 0 c).before 3 t d)))
      ⊢ iprop((held m c t.val ∗ owing (F := F) c (owedAt c t.val) ∗ (owns (c : Thread nD τ) (st0_0 t) fullShare (iblk m c 0 t) ∗ owns (c : Thread nD τ) (st0_1 t) fullShare (iblk m c 1 t))
        ∗ (∃ d, owns (c : Thread nD τ) (st0_3 t) fullShare ((dats m 0 c).before 3 t d))) ∗ owns (c : Thread nD τ) (st0_2 t) fullShare (iblk m c 2 t)) := by
    unfold Dat.owesAt Pipeline.owesWithin
    iintro ⟨HΦ, ⟨%W, -, HO⟩, ⟨%d0, H0⟩, ⟨%d1, H1⟩, ⟨%d2, H2⟩, H3⟩
    rw [before_0, before_1, before_2]
    ihave HΦ := (Entails.of_eq (show (dats m 0 c).Φ t.castSucc = held m c t.val from rfl)) $$ HΦ
    isplitr [H2]
    · isplitl [HΦ]; · iexact HΦ
      isplitl [HO]; · iexists W; iexact HO
      isplitl [H0 H1]
      · isplitl [H0]; · iexact H0
        iexact H1
      iexact H3
    iexact H2
  refine h'.trans ((sep_mono h Entails.rfl).trans ((wp_frame_r _ _ _).trans (wp_mono _ _ _ fun _ => ?_)))
  unfold Dat.owesAt Pipeline.owesWithin
  iintro ⟨⟨HΦ, ⟨%W, HO⟩, ⟨H0, H1⟩, H3⟩, H2⟩
  isplitl [HΦ]
  · iapply (Entails.of_eq (show held m c (t.val + 1) = (dats m 0 c).Φ t.succ from rfl)); iexact HΦ
  isplitl [HO]
  · iexists W; isplitr; · (ipureintro; exact fun _ _ => Or.inl trivial)
    iexact HO
  isplitl [H0]; · iexact H0
  isplitl [H1]; · iexact H1
  isplitl [H2]; · iexact H2
  iexact H3

theorem res_keep (c : Dev nD) (t : Fin cfg0.N) (hi : cfg0.idle 3 (cfg0.grid.coords t) = true) (hf : (cfg0.win 3).flush t = false) :
    res m c t = iprop(∃ d, owns (c : Thread nD τ) (st0_3 t) fullShare ((dats m 0 c).before 3 t d)) := by
  unfold res; rw [hi, hf]
theorem res_last (c : Dev nD) (t : Fin cfg0.N) (hf : (cfg0.win 3).flush t = true) :
    res m c t = owns (c : Thread nD τ) (st0_3 t) fullShare (totAt m c) := by
  unfold res; rw [hf]; cases cfg0.idle 3 (cfg0.grid.coords t) <;> rfl

/-- A program framed by what it does not touch, its parts in the order of a point. -/
theorem framed (c : Dev nD) (A B C D A' B' C' : sProp 𝕄) (p : P (F := F) PUnit) (h : iprop(A ∗ B ∗ C) ⊢ WP c (fun _ => iprop(A' ∗ B' ∗ C')) p) :
    iprop(A ∗ B ∗ C ∗ D) ⊢ WP c (fun _ => iprop(A' ∗ B' ∗ C' ∗ D)) p := by
  have h1 : iprop(A ∗ B ∗ C ∗ D) ⊢ iprop((A ∗ B ∗ C) ∗ D) := by
    iintro ⟨HA, HB, HC, HD⟩
    isplitr [HD]
    · isplitl [HA]; · iexact HA
      isplitl [HB]; · iexact HB
      iexact HC
    iexact HD
  refine h1.trans ((sep_mono h Entails.rfl).trans ((wp_frame_r _ _ _).trans (wp_mono _ _ _ fun _ => ?_)))
  iintro ⟨⟨HA, HB, HC⟩, HD⟩
  isplitl [HA]; · iexact HA
  isplitl [HB]; · iexact HB
  isplitl [HC]; · iexact HC
  iexact HD

theorem not_flush (t : Fin cfg0.N) (h : t.val % 4 ≠ 3) : (cfg0.win 3).flush t = false :=
  Bool.eq_false_iff.mpr fun e => h ((flush0_3 t).mp e)

theorem oblig_0 (c : Dev nD) :
    iprop(held m c 0 ∗ owing (F := F) c (owedAt c 0) ∗ blks m c (st0_0 t0_0) (st0_1 t0_0) 0
        ∗ (∃ d, owns (c : Thread nD τ) (st0_3 t0_0) fullShare ((dats m 0 c).before 3 t0_0 d)))
      ⊢ WP c (fun _ => iprop(held m c 1 ∗ owing (F := F) c (owedAt c 1) ∗ blks m c (st0_0 t0_0) (st0_1 t0_0) 0 ∗ res m c t0_0)) (bodyAt0 (F := F) t0_0) := by
  rw [res_keep m c t0_0 (by decide) (not_flush _ (by decide))]
  refine framed c _ _ _ _ _ _ _ _ ?_
  have c1 : k0_cond1 (grid0.coords t0_0) = 1#1 := by decide
  have c2 : ¬ k0_cond2 (grid0.coords t0_0) = 1#1 := by decide
  have c3 : ¬ k0_cond3 (grid0.coords t0_0) = 1#1 := by decide
  show _ ⊢ WP c _ (bodyOf (F := F) (grid0.coords t0_0) _ _ _ _ _ _ _ _)
  rw [body_first _ _ _ _ _ _ _ _ _ c1 c2 c3]
  unfold WP
  rw [wp_deviceId, devsA_eq]
  exact point_first m c _ _
theorem oblig_1 (c : Dev nD) :
    iprop(held m c 1 ∗ owing (F := F) c (owedAt c 1) ∗ blks m c (st0_0 t0_1) (st0_1 t0_1) 1
        ∗ (∃ d, owns (c : Thread nD τ) (st0_3 t0_1) fullShare ((dats m 0 c).before 3 t0_1 d)))
      ⊢ WP c (fun _ => iprop(held m c 2 ∗ owing (F := F) c (owedAt c 2) ∗ blks m c (st0_0 t0_1) (st0_1 t0_1) 1 ∗ res m c t0_1)) (bodyAt0 (F := F) t0_1) := by
  rw [res_keep m c t0_1 (by decide) (not_flush _ (by decide))]
  refine framed c _ _ _ _ _ _ _ _ ?_
  have c1 : ¬ k0_cond1 (grid0.coords t0_1) = 1#1 := by decide
  have c2 : ¬ k0_cond2 (grid0.coords t0_1) = 1#1 := by decide
  have c3 : ¬ k0_cond3 (grid0.coords t0_1) = 1#1 := by decide
  show _ ⊢ WP c _ (bodyOf (F := F) (grid0.coords t0_1) _ _ _ _ _ _ _ _)
  rw [body_mid _ _ _ _ _ _ _ _ _ c1 c2 c3]
  unfold WP
  rw [wp_deviceId]
  exact point_mid m c _ _ 1
theorem oblig_2 (c : Dev nD) :
    iprop(held m c 2 ∗ owing (F := F) c (owedAt c 2) ∗ blks m c (st0_0 t0_2) (st0_1 t0_2) 2
        ∗ (∃ d, owns (c : Thread nD τ) (st0_3 t0_2) fullShare ((dats m 0 c).before 3 t0_2 d)))
      ⊢ WP c (fun _ => iprop(held m c 3 ∗ owing (F := F) c (owedAt c 3) ∗ blks m c (st0_0 t0_2) (st0_1 t0_2) 2 ∗ res m c t0_2)) (bodyAt0 (F := F) t0_2) := by
  rw [res_keep m c t0_2 (by decide) (not_flush _ (by decide))]
  refine framed c _ _ _ _ _ _ _ _ ?_
  have c1 : ¬ k0_cond1 (grid0.coords t0_2) = 1#1 := by decide
  have c2 : k0_cond2 (grid0.coords t0_2) = 1#1 := by decide
  have c3 : ¬ k0_cond3 (grid0.coords t0_2) = 1#1 := by decide
  show _ ⊢ WP c _ (bodyOf (F := F) (grid0.coords t0_2) _ _ _ _ _ _ _ _)
  rw [body_wave0 _ _ _ _ _ _ _ _ _ c1 c2 c3]
  unfold WP
  rw [wp_deviceId, devsB_eq]
  exact point_wave0 m c _ _
theorem oblig_3 (c : Dev nD) :
    iprop(held m c 3 ∗ owing (F := F) c (owedAt c 3) ∗ blks m c (st0_0 t0_3) (st0_1 t0_3) 3
        ∗ (∃ d, owns (c : Thread nD τ) (st0_3 t0_3) fullShare ((dats m 0 c).before 3 t0_3 d)))
      ⊢ WP c (fun _ => iprop(held m c 4 ∗ owing (F := F) c (owedAt c 4) ∗ blks m c (st0_0 t0_3) (st0_1 t0_3) 3 ∗ res m c t0_3)) (bodyAt0 (F := F) t0_3) := by
  rw [res_last m c t0_3 ((flush0_3 _).mpr rfl)]
  have c1 : ¬ k0_cond1 (grid0.coords t0_3) = 1#1 := by decide
  have c2 : ¬ k0_cond2 (grid0.coords t0_3) = 1#1 := by decide
  have c3 : k0_cond3 (grid0.coords t0_3) = 1#1 := by decide
  show _ ⊢ WP c _ (bodyOf (F := F) (grid0.coords t0_3) _ _ _ _ _ _ _ _)
  rw [body_wave1 _ _ _ _ _ _ _ _ _ c1 c2 c3]
  unfold WP
  rw [wp_deviceId, devsC_eq]
  iintro ⟨HΦ, HO, H12, ⟨%d, H4⟩⟩
  ihave HΦ := (Entails.of_eq (show held m c 3 = Φ₃ m c from rfl)) $$ HΦ
  iapply (point_wave1 m c (st0_0 t0_3) (st0_1 t0_3) (st0_3 t0_3) ((dats m 0 c).before 3 t0_3 d))
  isplitl [HΦ]; · iexact HΦ
  isplitl [HO]; · iexact HO
  isplitl [H12]; · iexact H12
  iexact H4

/-- The body meets the pipeline's data at every point. -/
theorem body_obligation (c : Dev nD) : BodyObligation (dats m 0 c) (defs₀ (F := F)) 𝒱₀ () Set.univ := fun t => by
  rw [bigSep_W0, bigSep_W0]
  refine oblig_of m c t ?_
  rcases fin_N0 t with rfl | rfl | rfl | rfl
  exacts [oblig_0 m c, oblig_1 m c, oblig_2 m c, oblig_3 m c]

end Cert.RunProof

end
-- ==== Proof.Run.lean ====
/-
  The launch: every device's records and tokens from nothing, the tokens dealt to the devices that pay them, the credits the devices owe one
  another, and the run of the whole program.
-/
module

public import proofs.«01_k».proof.Proof.Oblig
public import Idealize.ShloMosaic.Lib.Pipeline.CollectiveSegs

@[expose] public section

noncomputable section

namespace Cert.RunProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- Over the cells of a device: the barrier, the transfers' ends, the arrivals. -/
theorem bigSep_CK {M : Type} [URA M] (Φ : CK → sProp M) :
    bigSep Finset.univ Φ = iprop(Φ none ∗ seps (fun wk => Φ (some (false, wk))) wk14 ∗ seps (fun wk => Φ (some (true, wk))) wk14) := by
  rw [bigSep_univ_at Φ none, show (Finset.univ.erase none : Finset CK) = Finset.univ.map ⟨some, Option.some_injective _⟩ from by
    ext x; cases x <;> simp, bigSep_map, bigSep_univ_prod, bigSep_univ_eq_bigSepL [false, true] (by decide) (by decide), ← bigSep_wk14, ← bigSep_wk14]
  rfl

def cells : Finset (GSem nD τ sig) := Finset.univ.map ⟨fun cx : Dev nD × CK => cellAt cx.1 cx.2, cellAt_injective⟩

/-- A device's own cells' tokens: seven of its barrier, one of every transfer. -/
abbrev TK : Type := Fin 7 ⊕ (Bool × Fin 2 × Fin 7)
def tokOf (ct : Dev nD × TK) : GSem nD τ sig × ℕ × Fin 7 := match ct.2 with
  | .inl k => (barCell ct.1, 0, k)
  | .inr x => (cellAt ct.1 (some x), 0, 0)
theorem tokOf_injective : Function.Injective tokOf := by
  rintro ⟨c, a⟩ ⟨c', a'⟩ h
  rcases a with k | x <;> rcases a' with k' | x' <;> obtain ⟨h1, h2⟩ := Prod.mk.inj h <;> obtain ⟨hc, hx⟩ := cellAt_iff.mp h1
  · exact Prod.ext hc (congrArg Sum.inl (Prod.mk.inj h2).2)
  · exact absurd hx (by nofun)
  · exact absurd hx (by nofun)
  · exact Prod.ext hc (congrArg Sum.inr (Option.some.inj hx))
def cellToks : Finset (GSem nD τ sig × ℕ × Fin 7) := Finset.univ.map ⟨tokOf, tokOf_injective⟩

def u₀ : UU := (initOf (Pipeline.cells cfgs cellOf_inj) (Pipeline.launchToks cfgs cellOf_inj), initOf cells cellToks)

/-- Device `c`'s own cells' tokens. -/
def toks (c : Dev nD) : sProp 𝕄 :=
  iprop((bigSep Finset.univ fun k : Fin 7 => dutyTok ER (barCell c) 0 k) ∗ bigSep Finset.univ fun x : Bool × Fin 2 × Fin 7 => dutyTok ER (cellAt c (some x)) 0 0)

/-- What the launch deals device `c`, -/
def dealt (c : Dev nD) : sProp 𝕄 :=
  iprop((bigSep Finset.univ fun x : CK => roundState ER (sched m) (cellAt c x) 0)
    ∗ (bigSep Finset.univ fun x : CK => iprop(atPos ER (cellAt c x) 0 ∅ 0 ∗ reached ER (cellAt c x) 0)) ∗ toks (F := F) c)
/-- the tokens of the duties it pays, -/
def payToks (c : Dev nD) : sProp 𝕄 := iprop(tokB (F := F) c ∗ tokX (F := F) c 0 ∗ tokX (F := F) c 1)
/-- and what it holds once all devices' records stand. -/
def ready (c : Dev nD) : sProp 𝕄 :=
  iprop((∃ K, records m K) ∗ (atPos ER (barCell c) 0 ∅ 0 ∗ posX (F := F) c) ∗ payToks (F := F) c)

theorem fund_cells : BI.own (ER (initOf cells cellToks)) ⊢ (|==> bigSep Finset.univ (dealt m) : sProp 𝕄) := by
  have hX (Φ : GSem nD τ sig → sProp 𝕄) : bigSep cells Φ = bigSep Finset.univ fun c : Dev nD => bigSep Finset.univ fun x : CK => Φ (cellAt c x) := by
    unfold cells; rw [bigSep_map, bigSep_univ_prod]; rfl
  have hT : bigSep cellToks (fun x => (dutyTok ER x.1 x.2.1 x.2.2 : sProp 𝕄)) = bigSep Finset.univ fun c : Dev nD => toks (F := F) c := by
    unfold cellToks; rw [bigSep_map, bigSep_univ_prod]
    exact bigSep_congr fun c _ => by unfold toks; rw [bigSep_univ_sum]; rfl
  iintro HX
  imod (Rounds.fund ER (sched m) cells cellToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-- The kernel's own semaphores: those of the transfers. -/
def osem (x : Bool × Fin 2 × Fin 7) : SemLoc sig := csem (some x)
theorem ownSemFacts : Pipeline.OwnSemFacts cfg0.spec osem where
  isScoped := by decide
  inj := fun x y h => Option.some.inj (csem_injective h)
  disj := by decide

theorem unscopedSems0_eq (c : Dev nD) : (unscopedSems0 c : sProp 𝕄) = semVal (barCell c) 0 := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄)
    = iprop(seps (fun wk => semVal (sendCell c wk.1 wk.2) 0) wk14 ∗ seps (fun wk => semVal (recvCell c wk.1 wk.2) 0) wk14) := by
  unfold Pipeline.ownSems0
  rw [bigSep_univ_prod, bigSep_univ_eq_bigSepL [false, true] (by decide) (by decide), ← bigSep_wk14, ← bigSep_wk14]
  rfl
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CK => semVal (cellAt c x) 0 : sProp 𝕄) := by
  rw [ownSems0_eq, unscopedSems0_eq, bigSep_CK]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun x : CK => iprop(∃ κ : ℕ, cellInv ER (sched m) κ (cellAt c x)))
          ∗ (bigSep Finset.univ fun x : CK => iprop(atPos ER (cellAt c x) 0 ∅ 0 ∗ reached ER (cellAt c x) 0)) ∗ toks (F := F) c) := by
  unfold dealt
  iintro ⟨Hos, Hus, Hst, Hat, Htok⟩
  ihave Hv := (sems0_eq (F := F) c) $$ [Hos Hus]
  · isplitl [Hos] <;> iassumption
  imod (show iprop((bigSep Finset.univ fun x : CK => semVal (cellAt c x) 0) ∗ bigSep Finset.univ fun x : CK => roundState ER (sched m) (cellAt c x) 0)
      ⊢ (|={Set.univ}=> bigSep Finset.univ fun x : CK => iprop(∃ κ : ℕ, cellInv ER (sched m) κ (cellAt c x)) : sProp 𝕄) from by
        rw [← bigSep_sep']
        exact (bigSep_mono fun x _ => (Rounds.body_intro ER (sched m) (cellAt c x)).trans inv_alloc).trans (bigSep_fupd _ _)) $$ [Hv Hst] with Hinv
  · isplitl [Hv] <;> iassumption
  imodintro
  isplitl [Hinv]; · iexact Hinv
  isplitl [Hat]; · iexact Hat
  iexact Htok

/-- By devices and then by numbers is by numbers and then by devices. -/
theorem turn_about (Φ : Dev nD → Fin 7 → sProp 𝕄) :
    (bigSep Finset.univ fun c : Dev nD => bigSep Finset.univ fun k : Fin 7 => Φ c k) = bigSep Finset.univ fun k : Fin 7 => bigSep Finset.univ fun c : Dev nD => Φ c k := by
  rw [← bigSep_univ_prod (fun ck : Dev nD × Fin 7 => Φ ck.1 ck.2), ← bigSep_univ_prod (fun kc : Fin 7 × Dev nD => Φ kc.2 kc.1),
    bigSep_univ_equiv (Equiv.prodComm (Fin 7) (Dev nD)) (fun ck : Dev nD × Fin 7 => Φ ck.1 ck.2)]
  rfl

/-- A token of each number, each device's, dealt to the device that many places back. -/
theorem dealt_round (Φ : Dev nD → Fin 7 → sProp 𝕄) :
    (bigSep Finset.univ fun c : Dev nD => bigSep Finset.univ fun k : Fin 7 => Φ c k)
      = bigSep Finset.univ fun c : Dev nD => bigSep Finset.univ fun k : Fin 7 => Φ (tgt c k) k := by
  rw [turn_about, turn_about (fun (c : Dev nD) (k : Fin 7) => Φ (tgt c k) k)]
  exact bigSep_congr fun k _ => bigSep_univ_equiv (turn k) (fun c => Φ c k)

theorem toks_eq (c : Dev nD) : toks (F := F) c
    = iprop((bigSep Finset.univ fun k : Fin 7 => dutyTok ER (barCell c) 0 k)
      ∗ ((bigSep Finset.univ fun k : Fin 7 => dutyTok ER (sendCell c 0 k) 0 0) ∗ (bigSep Finset.univ fun k : Fin 7 => dutyTok ER (sendCell c 1 k) 0 0))
      ∗ (bigSep Finset.univ fun k : Fin 7 => dutyTok ER (recvCell c 0 k) 0 0) ∗ (bigSep Finset.univ fun k : Fin 7 => dutyTok ER (recvCell c 1 k) 0 0)) := by
  unfold toks
  rw [bigSep_univ_prod (fun x : Bool × Fin 2 × Fin 7 => (dutyTok ER (cellAt c (some x)) 0 0 : sProp 𝕄)), bigSep_univ_eq_bigSepL [false, true] (by decide) (by decide)]
  show iprop(_ ∗ bigSep Finset.univ _ ∗ bigSep Finset.univ _) = _
  rw [bigSep_univ_prod, bigSep_univ_prod, bigSep_fin_two, bigSep_fin_two]
  rfl
theorem payToks_eq (c : Dev nD) : payToks (F := F) c
    = iprop((bigSep Finset.univ fun k : Fin 7 => dutyTok ER (barCell (tgt c k)) 0 k)
      ∗ ((bigSep Finset.univ fun k : Fin 7 => dutyTok ER (sendCell c 0 k) 0 0) ∗ (bigSep Finset.univ fun k : Fin 7 => dutyTok ER (recvCell (tgt c k) 0 k) 0 0))
      ∗ (bigSep Finset.univ fun k : Fin 7 => dutyTok ER (sendCell c 1 k) 0 0) ∗ (bigSep Finset.univ fun k : Fin 7 => dutyTok ER (recvCell (tgt c k) 1 k) 0 0)) := by
  unfold payToks tokB tokX
  rw [← bigSep_ks7, ← bigSep_ks7, ← bigSep_ks7, bigSep_sep', bigSep_sep']

/-- The tokens dealt to the devices that pay their duties. -/
theorem toks_around : (bigSep Finset.univ fun c : Dev nD => (toks c : sProp 𝕄)) ⊢ bigSep Finset.univ fun c : Dev nD => payToks (F := F) c := by
  rw [bigSep_congr fun c _ => toks_eq (F := F) c, bigSep_congr fun c _ => payToks_eq (F := F) c]
  simp only [bigSep_sep']
  rw [dealt_round (fun c k => dutyTok ER (barCell c) 0 k), dealt_round (fun c k => dutyTok ER (recvCell c 0 k) 0 0),
    dealt_round (fun c k => dutyTok ER (recvCell c 1 k) 0 0)]
  iintro ⟨H1, ⟨H2, H3⟩, H4, H5⟩
  isplitl [H1]; · iexact H1
  isplitl [H2 H4]
  · isplitl [H2]; · iexact H2
    iexact H4
  isplitl [H3]; · iexact H3
  iexact H5

theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ready_intro (K : Dev nD × CK → ℕ) (c : Dev nD) :
    iprop(records m K ∗ ((bigSep Finset.univ fun x : CK => atPos ER (cellAt c x) 0 ∅ 0) ∗ payToks (F := F) c)) ⊢ ready m c := by
  unfold ready posX
  rw [bigSep_CK]
  iintro ⟨HR, Hat, Ht⟩
  isplitl [HR]; · iexists K; iexact HR
  isplitl [Hat]; · iexact Hat
  iexact Ht

theorem regroup :
    (bigSep Finset.univ fun c : Dev nD => iprop((bigSep Finset.univ fun x : CK => iprop(∃ κ : ℕ, cellInv ER (sched m) κ (cellAt c x)))
          ∗ (bigSep Finset.univ fun x : CK => iprop(atPos ER (cellAt c x) 0 ∅ 0 ∗ reached ER (cellAt c x) 0)) ∗ toks (F := F) c) : sProp 𝕄)
      ⊢ bigSep Finset.univ (ready m) := by
  rw [bigSep_sep', bigSep_sep', ← bigSep_univ_prod (fun cx : Dev nD × CK => iprop(∃ κ : ℕ, cellInv ER (sched m) κ (cellAt cx.1 cx.2))),
    bigSep_congr (s := Finset.univ) (fun (c : Dev nD) _ => bigSep_sep' Finset.univ (fun x : CK => (atPos ER (cellAt c x) 0 ∅ 0 : sProp 𝕄)) (fun x => reached ER (cellAt c x) 0)),
    bigSep_sep', ← bigSep_univ_prod (fun cx : Dev nD × CK => (reached ER (cellAt cx.1 cx.2) 0 : sProp 𝕄))]
  iintro ⟨HI, ⟨Hat, #HR⟩, Htok⟩
  ihave HK := (BI.bigSep_exists_pi Finset.univ (fun (cx : Dev nD × CK) (κ : ℕ) => (cellInv ER (sched m) κ (cellAt cx.1 cx.2) : sProp 𝕄))) $$ HI
  icases HK with ⟨%K, #HI⟩
  ihave Htk := (toks_around (F := F)) $$ Htok
  iapply (bigSep_beside (R := records m K) fun c _ => ready_intro m K c)
  isplitr
  · unfold records; isplitl; · iexact HI
    iexact HR
  · iapply (Entails.of_eq (bigSep_sep' Finset.univ (fun c : Dev nD => bigSep Finset.univ fun x : CK => (atPos ER (cellAt c x) 0 ∅ 0 : sProp 𝕄)) payToks).symm)
    isplitl [Hat]; · iexact Hat
    iexact Htk

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => core_alloc m c).trans (bigSep_fupd _ _)).trans (BI.fupd_mono (regroup m))

/-! ## The launch credit -/

theorem sum_ks7 (h : Fin 7 → ℕ) : (ks7.map h).sum = ∑ k, h k := by
  rw [Fin.sum_univ_def]; rfl

theorem sum_at (f : Fin 7 → GSem nD τ sig) (n : ℕ) (g : GSem nD τ sig) :
    ((ks7.map fun k => (tallyAt (f k) () n : CellTallies nD τ sig Unit)).sum) g () = ∑ k, if g = f k then n else 0 := by
  rw [← sum_ks7]
  induction ks7 with
  | nil => rfl
  | cons k l ih =>
    rw [List.map_cons, List.sum_cons, List.map_cons, List.sum_cons, Pi.add_apply, Finsupp.add_apply, tallyAt_apply, ih]
    simp only [and_true]

theorem some_ne {x : Bool × Fin 2 × Fin 7} : ¬ (some x : CK) = none := nofun
theorem owedBar_bar (d c : Dev nD) : owedBar d ks7 (barCell c) () = ∑ k, if c = tgt d k then 1 else 0 := by
  unfold owedBar
  rw [sum_at]
  exact Finset.sum_congr rfl fun k _ => if_congr (cellAt_iff.trans (and_iff_left rfl)) rfl rfl
theorem owedBar_recv (d c : Dev nD) (w : Fin 2) (k : Fin 7) : owedBar d ks7 (recvCell c w k) () = 0 := by
  unfold owedBar
  rw [sum_at]
  exact Finset.sum_eq_zero fun k' _ => if_neg fun h => some_ne (cellAt_iff.mp h).2
theorem owedRecv_bar (d c : Dev nD) (w : Fin 2) : owedRecv d w ks7 (barCell c) () = 0 := by
  unfold owedRecv
  rw [sum_at]
  exact Finset.sum_eq_zero fun k' _ => if_neg fun h => some_ne (cellAt_iff.mp h).2.symm
theorem owedRecv_recv (d c : Dev nD) (w' w : Fin 2) (k : Fin 7) :
    owedRecv d w' ks7 (recvCell c w k) () = if w = w' then (if d = src c k then N else 0) else 0 := by
  unfold owedRecv
  rw [sum_at, Finset.sum_eq_single k (fun k' _ hk => if_neg fun h => hk (by
    have := (cellAt_iff.mp h).2
    exact (Prod.mk.inj (Prod.mk.inj (Option.some.inj this)).2).2.symm)) (fun h => absurd (Finset.mem_univ k) h)]
  by_cases hw : w = w'
  · subst hw
    rw [if_pos rfl]
    exact if_congr (cellAt_iff.trans ⟨fun h => by rw [h.1, src_tgt], fun h => ⟨by rw [h, tgt_src], rfl⟩⟩) rfl rfl
  · rw [if_neg hw]
    exact if_neg fun h => hw (Prod.mk.inj (Prod.mk.inj (Option.some.inj (cellAt_iff.mp h).2)).2).1

theorem seven_owe (c : Dev nD) : (∑ d : Dev nD, ∑ k : Fin 7, if c = tgt d k then 1 else 0) = 7 := by revert c; decide

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, ← seven_owe c]
  refine Finset.sum_congr rfl fun d _ => ?_
  unfold O₀ O₁
  rw [Pi.add_apply, Finsupp.add_apply, Pi.add_apply, Finsupp.add_apply, owedRecv_bar, owedRecv_bar, owedBar_bar, Nat.add_zero, Nat.zero_add]
theorem launch_recv (c : Dev nD) (w : Fin 2) (k : Fin 7) :
    tallyOn (recvCell c w k) (launchCredit (Pipeline.owing O₀) 0 (recvCell c w k)) = (tallyAt (recvCell c w k) () N : CellTallies nD τ sig Unit) := by
  unfold tallyAt; refine congrArg _ (Finsupp.ext fun u => ?_); cases u
  rw [Pipeline.launchCredit_owing, Finsupp.single_eq_same]
  refine (Finset.sum_congr rfl fun d _ => ?_).trans ((Finset.sum_ite_eq' Finset.univ (src c k) fun _ => N).trans (if_pos (Finset.mem_univ _)))
  unfold O₀ O₁
  rw [Pi.add_apply, Finsupp.add_apply, Pi.add_apply, Finsupp.add_apply, owedRecv_recv, owedRecv_recv, owedBar_recv, Nat.add_zero]
  have hw : w = 0 ∨ w = 1 := by revert w; decide
  rcases hw with rfl | rfl
  · rw [if_neg (show ¬ (0 : Fin 2) = 1 by decide), if_pos rfl, Nat.zero_add]
  · rw [if_pos rfl, if_neg (show ¬ (1 : Fin 2) = 0 by decide), Nat.add_zero]

theorem creds (c : Dev nD) : (Pipeline.launchCred O₀ c : sProp 𝕄) ⊢ iprop(credB (F := F) c ∗ credR (F := F) c) := by
  unfold Pipeline.launchCred
  refine (bigSep_subset (Finset.subset_univ (Finset.univ.map ⟨csem, csem_injective⟩))).trans ?_
  rw [bigSep_map, bigSep_CK]
  have hB : (cred (tallyOn (barCell c) (launchCredit (Pipeline.owing O₀) 0 (barCell c))) : sProp 𝕄) = credB (F := F) c := by
    unfold credB; rw [launch_bar]
  have hR : seps (fun wk : Fin 2 × Fin 7 => (cred (tallyOn (recvCell c wk.1 wk.2) (launchCredit (Pipeline.owing O₀) 0 (recvCell c wk.1 wk.2))) : sProp 𝕄)) wk14
      = credR (F := F) c := by
    unfold credR; exact seps_congr (fun wk => by rw [launch_recv]) _
  rw [← hB, ← hR]
  refine show iprop(cred (tallyOn (barCell c) (launchCredit (Pipeline.owing O₀) 0 (barCell c)))
    ∗ seps (fun wk : Fin 2 × Fin 7 => (cred (tallyOn (sendCell c wk.1 wk.2) (launchCredit (Pipeline.owing O₀) 0 (sendCell c wk.1 wk.2))) : sProp 𝕄)) wk14
    ∗ seps (fun wk : Fin 2 × Fin 7 => (cred (tallyOn (recvCell c wk.1 wk.2) (launchCredit (Pipeline.owing O₀) 0 (recvCell c wk.1 wk.2))) : sProp 𝕄)) wk14) ⊢ _ from ?_
  iintro ⟨H1, -, H2⟩
  isplitl [H1]; · iexact H1
  iexact H2

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(start m c ∗ emp) := by
  unfold ready payToks
  iintro ⟨-, Hlev, Hcr, -, HR, ⟨Hat, Hpos⟩, HtB, Ht0, Ht1⟩
  ihave Hc := (creds (F := F) c) $$ Hcr
  icases Hc with ⟨HcB, HcR⟩
  imodintro
  unfold start keep ctx
  isplitl
  · isplitr [HtB]
    · isplitl [HR Hlev]
      · isplitl [HR]; · iexact HR
        iexact Hlev
      isplitl [Hat]; · iexact Hat
      isplitl [Hpos]; · iexact Hpos
      isplitl [Ht0]; · iexact Ht0
      isplitl [Ht1]; · iexact Ht1
      isplitl [HcB]; · iexact HcB
      iexact HcR
    iexact HtB
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ any
  iintro ⟨Hs, -, Hr⟩
  isplitl [Hs]; · iexact Hs
  iexact Hr

theorem phi4_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = held m c cfg0.N from rfl, cfg0_N, show held m c 4 = Φ₄ (F := F) c from rfl, scopedRest0_eq, ownSems0_eq, unscopedSems0_eq]
  unfold Φ₄ any
  iintro ⟨HzB, HzS, HzR, Hr⟩
  isplitl [HzB]; · iexact HzB
  isplitl [HzS HzR]
  · isplitl [HzS]; · iexact HzS
    iexact HzR
  iexact Hr

theorem owedAt_pos (c : Dev nD) (t : ℕ) (g : GSem nD τ sig) (u : Unit) (h : 0 < owedAt c t g u) : (∃ d w k, g = recvCell d w k) ∨ ∃ d, g = barCell d := by
  rcases t with _ | _ | _ | _ | t
  · exact O₀_pos h
  · exact .inl (O₁_pos h)
  · exact .inl (O₁_pos h)
  · exact .inl (O₃_pos h)
  · exact absurd h (Nat.lt_irrefl 0)

theorem stage_sem (w : Fin cfg0.W) (s : Fin (cfg0.win w).nbuf) : which (SemLoc.dma ((cfg0.win w).sem s)) = none :=
  which_none _ fun x => by
    rcases x with _ | x
    · exact nofun
    · exact ownSemFacts.disj x w s

theorem waits (c : Dev nD) : (levAts L lv : sProp 𝕄) ⊢ Pipeline.cellsWaits cfgs (dats m) () 0 c :=
  Pipeline.cellsWaits_intro cfgs (dats m) () 0 c fun w s t => mayWait_stage c _ (stage_sem w s) _ (owedAt_pos c t.val)

theorem share_eq (c : Dev nD) (w : Fin cfg0.W) : (dats m 0 c).share w = fullShare := by unfold Dat.share; split <;> rfl

def finalA (c : Dev nD) (w : Fin cfg0.W) : Buf (Elt F) ((cfg0.win w).arr.view.loc (c : Thread nD τ)) := (dats m 0 c).arrAt w cfg0.N

def s₀ : MemSt nD τ sig (Elt F) := ⟨m, fun _ => 0, ρ⟩

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- Every weakly fair execution of the eight devices' program ends, with every device's arrays at the contents computed and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun c => by
      show owedAt c cfg0.N = 0
      rw [cfg0_N]; rfl)
    (L := L) (lv := lv) (hL := L_of_ne) (hwaits := waits m)
    (G := dealt m) (G' := ready m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi4_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays hold after the run what they held. -/
theorem finalA_0 (c : Dev nD) : finalA m c 0 = m ((cfg0.win 0).arr.view.loc (c : Thread nD τ)) := (dats m 0 c).arrAt_in 0 rfl _
theorem finalA_1 (c : Dev nD) : finalA m c 1 = m ((cfg0.win 1).arr.view.loc (c : Thread nD τ)) := (dats m 0 c).arrAt_in 1 rfl _
theorem finalA_2 (c : Dev nD) : finalA m c 2 = m ((cfg0.win 2).arr.view.loc (c : Thread nD τ)) := (dats m 0 c).arrAt_in 2 rfl _

end Cert.RunProof

end
-- ==== Proof.Frames.lean ====
/-
  The frames: every execution ends with the arguments unchanged and every semaphore at zero — of the kernel as printed, of its idealization, and
  of the reference.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.RunProof

open Idealize.ShloMosaic Idealize.ShloMosaic.TcCoe Idealize.SL.Sem

section Kernel

open Cert.KernelIdeal

variable {F : FTy → Type} [FloatOps F] (m : (ℓ : Loc nD τ sig) → Buf (Elt F) ℓ) (ρ : Dev nD → PrngReg)

/-- The arguments of a device hold in `s` what they held in `m`. -/
abbrev kept (s : (ℓ : Loc nD τ sig) → Buf (Elt F) ℓ) (c : Dev nD) : Prop :=
  s ((c.tc : Thread nD τ).loc main_arg0) = m ((c.tc : Thread nD τ).loc main_arg0)
    ∧ s ((c.tc : Thread nD τ).loc main_arg1) = m ((c.tc : Thread nD τ).loc main_arg1)
    ∧ s ((c.tc : Thread nD τ).loc main_arg2) = m ((c.tc : Thread nD τ).loc main_arg2)

theorem kept_of (r : PUnit × MemSt nD τ sig (Elt F)) (h : QC m r) (c : Dev nD) : kept m r.2.mem c :=
  ⟨(h c 0).trans (finalA_0 m c), (h c 1).trans (finalA_1 m c), (h c 2).trans (finalA_2 m c)⟩

theorem frame_any : θ_run defs (onTc (τ := τ) (main (F := F))) ⟨m, fun _ => 0, ρ⟩ (fun r => (∀ c, kept m r.2.mem c) ∧ r.2.sem = fun _ => 0) :=
  (θ_run defs _ _).mono (fun r h => ⟨kept_of m r h.1, h.2⟩) (run_main m ρ)

end Kernel

/-- The body table of the kernel as printed is its idealization's: the two texts are one. -/
theorem defs₀_eq : Cert.Kernel.defs₀ (F := Bits) = Cert.KernelIdeal.defs₀ (F := Bits) := by
  refine congrArg Defs.onTc (funext fun l => funext fun a => ?_)
  match l, a with
  | 0, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs (Cert.KernelIdeal.pcfgs (F := Bits))) defs₀_eq

theorem frame_Kernel : Cert.quiescent_Kernel (hKernel := Cert.Kernel.Gen.facts) := by
  intro m g _
  rw [defs_eq]
  exact frame_any (F := Bits) m g

theorem frame_KernelIdeal : Cert.quiescent_KernelIdeal (hKernelIdeal := Cert.KernelIdeal.Gen.facts) := fun m g _ => frame_any m g

theorem frame_ReferenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Value.run (F := Ideal) m g)

end Cert.RunProof

end
-- ==== Proof.Rows.lean ====
/-
  One row of LayerNorm over the reals, and the kernel's two row sums of a block read through it.
-/
module

public import proofs.«01_k».proof.Proof.Gen.KernelIdeal.Skeleton
public import Idealize.ShloMosaic.Lib.Pointwise
public import Idealize.ShloMosaic.Lib.IdealHost

@[expose] public section

set_option maxRecDepth 16384

noncomputable section

namespace Cert.RunProof

open Idealize.ShloMosaic
open scoped BigOperators

/-! ## The row, in ℝ -/

/-- The mean of a row. -/
def mean (x : Fin 2048 → ℝ) : ℝ := (∑ k, x k) * (1 / 2048)
/-- The mean squared distance of a row from its mean. -/
def spread (x : Fin 2048 → ℝ) : ℝ := (∑ k, (x k - mean x) * (x k - mean x)) * (1 / 2048)
/-- The number the programs add to the variance: the bf16 nearest 1e-5. -/
def eps : ℝ := 21 / 2097152
/-- One over the standard deviation of a row. -/
def scale (x : Fin 2048 → ℝ) : ℝ := (√(spread x + eps))⁻¹
/-- A row, centred and scaled. -/
def hat (x : Fin 2048 → ℝ) (j : Fin 2048) : ℝ := (x j - mean x) * scale x

theorem spread_nonneg (x : Fin 2048 → ℝ) : 0 ≤ spread x :=
  mul_nonneg (Finset.sum_nonneg fun _ _ => mul_self_nonneg _) (by norm_num)

theorem spread_eps_pos (x : Fin 2048 → ℝ) : 0 < spread x + eps := add_pos_of_nonneg_of_pos (spread_nonneg x) (by norm_num [eps])

/-- The mean of the squares less the square of the mean is the mean squared distance. -/
theorem spread_eq (x : Fin 2048 → ℝ) : (∑ k, x k * x k) * (1 / 2048) - mean x * mean x = spread x := by
  have h : ∑ k, (x k - mean x) * (x k - mean x) = ∑ k, x k * x k - 2 * mean x * ∑ k, x k + 2048 * (mean x * mean x) := by
    have e : ∀ k, (x k - mean x) * (x k - mean x) = x k * x k - 2 * mean x * x k + mean x * mean x := fun k => by ring
    simp only [e, Finset.sum_add_distrib, Finset.sum_sub_distrib, ← Finset.mul_sum, Finset.sum_const, Finset.card_univ, Fintype.card_fin, nsmul_eq_mul]
    ring
  have hs : ∑ k, x k = 2048 * mean x := by unfold mean; ring
  rw [spread, h, hs]; ring

/-! ## The same among the extended reals -/

theorem ereal_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem bits_inv2048 : Ideal.ofBits .bf16 0x3A00#16 = ((1 / 2048 : ℝ) : EReal) := by simp [Ideal.ofBits, Ideal.ieee, -EReal.coe_mul]; norm_num
theorem bits_eps : Ideal.ofBits .bf16 0x3728#16 = ((eps : ℝ) : EReal) := by simp [Ideal.ofBits, Ideal.ieee, eps, -EReal.coe_mul]; norm_num
theorem bits_2048 : Ideal.ofBits .f32 0x45000000#32 = ((2048 : ℝ) : EReal) := by simp [Ideal.ofBits, Ideal.ieee, -EReal.coe_mul]; norm_num
theorem bits_inf : Ideal.ofBits .bf16 0x7F80#16 = ⊤ := by simp [Ideal.ofBits, Ideal.ieee, -EReal.coe_mul]

theorem rsqrt_pos {r : ℝ} (h : 0 < r) : Ideal.rsqrt (r : EReal) = (((√r)⁻¹ : ℝ) : EReal) := by
  change (if r < 0 then ⊥ else if r = 0 then ⊤ else (((√r)⁻¹ : ℝ) : EReal)) = _
  rw [if_neg (not_lt.2 h.le), if_neg h.ne']

theorem sqrt_pos {r : ℝ} (h : 0 < r) : Ideal.sqrt (r : EReal) = ((√r : ℝ) : EReal) := by
  change (if r < 0 then ⊥ else ((√r : ℝ) : EReal)) = _
  rw [if_neg (not_lt.2 h.le)]

section Kernel

open Cert.KernelIdeal Cert.KernelIdeal.Gen

variable (x y : Vec Ideal S512x2048 .bf16) (X D : Fin 512 → Fin 2048 → ℝ)

/-- The kernel's sum over the rows of a block of `dy` times the normalized `x`, for a block of real numbers. -/
theorem pay15_real (hx : ∀ r k, x (ix2 r k) = ((X r k : ℝ) : EReal)) (hy : ∀ r k, y (ix2 r k) = ((D r k : ℝ) : EReal)) (i : Fin 1) (j : Fin 2048) :
    k0_pay15 x y (ix2 i j) = ((∑ r, D r j * hat (X r) j : ℝ) : EReal) := by
  pointwise [k0_pay15, k0_pay14]
  rw [← ereal_sum]
  refine Finset.sum_congr rfl fun r _ => ?_
  simp only [hx, hy, bits_inv2048, bits_eps, ← EReal.coe_mul, ereal_sum, ← EReal.coe_sub, ← EReal.coe_add]
  rw [show (∑ k, X r k) * (1 / 2048) = mean (X r) from rfl, spread_eq, rsqrt_pos (spread_eps_pos _)]
  simp only [← EReal.coe_mul, ← EReal.coe_sub]
  refine congrArg _ ?_
  rw [hat, scale]; ring

/-- The kernel's sum over the rows of a block of `dy`. -/
theorem pay16_real (hy : ∀ r k, y (ix2 r k) = ((D r k : ℝ) : EReal)) (i : Fin 1) (j : Fin 2048) :
    k0_pay16 y (ix2 i j) = ((∑ r, D r j : ℝ) : EReal) := by
  pointwise [k0_pay16, k0_pay14]
  simp only [hy, ereal_sum]

theorem pay1_at (v : FVec Ideal S1x2048 .bf16) (w : Vec Ideal S1x2048 .f32) (i : Fin 1) (j : Fin 2048) : k0_pay1 v w (ix2 i j) = w (ix2 i j) + v (ix2 i j) := by
  pointwise [k0_pay1]
theorem pay2_at (v w : Vec Ideal S1x2048 .f32) (i : Fin 1) (j : Fin 2048) : k0_pay2 v w (ix2 i j) = w (ix2 i j) + v (ix2 i j) := by
  pointwise [k0_pay2]
theorem pay3_at (i : Fin 2) (j : Fin 2048) : k0_pay3 (F := Ideal) (ix2 i j) = 0 := by
  pointwise [k0_pay3]

end Kernel

end Cert.RunProof

end
-- ==== Proof.Sums.lean ====
/-
  What the kernel leaves in its result array, read at an index: each device's running sums, then all of them added up.
-/
module

public import proofs.«01_k».proof.Proof.Run
public import proofs.«01_k».proof.Proof.Rows
public import Idealize.ShloMosaic.Lib.Pipeline.ValueKit

@[expose] public section

set_option maxRecDepth 16384

noncomputable section

namespace Cert.RunProof

open Idealize.ShloMosaic Idealize.ShloMosaic.TcCoe Cert.KernelIdeal Cert.KernelIdeal.Gen
open scoped BigOperators

section Result

variable {F : FTy → Type} [FloatOps F] (m : (ℓ : Loc nD τ sig) → Buf (Elt F) ℓ)

/-- The result array ends holding the total. -/
theorem finalA_3 (c : Dev nD) : finalA m c 3 = (totAt m c : FVec F S2x2048 .f32) := by
  refine (dats m 0 c).arrAt_eq_of_after_last 3 t0_3 (by decide +kernel) _ fun j => ?_
  blk_simp
  rfl

/-- Row `r` of the block of point `t`, among the rows of a device. -/
def rowOf (t : ℕ) (r : Fin 512) : Fin 2048 := ⟨512 * (t % 4) + r.val, by omega⟩

/-- Point `t` takes block `t` of the rows. -/
theorem index_pt : ∀ t : Fin 4, (win0_0.index (pt t.val) 0 = t.val ∧ win0_0.index (pt t.val) 1 = 0)
    ∧ win0_1.index (pt t.val) 0 = t.val ∧ win0_1.index (pt t.val) 1 = 0 := by decide +kernel
theorem pt_mod (t : ℕ) : pt (t % 4) = pt t := Fin.ext (Nat.mod_mod t 4)

theorem xsAt_at (c : Dev nD) (t : ℕ) (r : Fin 512) (k : Fin 2048) : xsAt m c t (ix2 r k) = m ((c.tc : Thread nD τ).loc main_arg0) (ix2 (rowOf t r) k) := by
  unfold xsAt
  have h := (index_pt ⟨t % 4, Nat.mod_lt _ (by decide)⟩).1
  simp only [pt_mod] at h
  blk_ext [iblk, V, rowOf] <;> omega
theorem dysAt_at (c : Dev nD) (t : ℕ) (r : Fin 512) (k : Fin 2048) : dysAt m c t (ix2 r k) = m ((c.tc : Thread nD τ).loc main_arg1) (ix2 (rowOf t r) k) := by
  unfold dysAt
  have h := (index_pt ⟨t % 4, Nat.mod_lt _ (by decide)⟩).2
  simp only [pt_mod] at h
  blk_ext [iblk, V, rowOf] <;> omega

end Result

/-! ## The accumulator's two rows -/

section Accumulator

abbrev rowR (i : Fin 2) (h : ∀ a, (![i.val, 0] : Fin 2 → ℕ) a + S1x2048.size a ≤ S2x2048.size a) : Rect S2x2048 :=
  Rect.unit (s := S2x2048) ![i.val, 0] S1x2048.size h

variable (i : Fin 2) (h : ∀ a, (![i.val, 0] : Fin 2 → ℕ) a + S1x2048.size a ≤ S2x2048.size a) (j : Fin 2048)

theorem row_emb : (accM.access (rowR i h)).emb (ix2 (0 : Fin 1) j) = (ix2 i j : S2x2048.Idx) := by
  funext a
  refine Fin.ext ?_
  match a with
  | 0 => show i.val + 1 * 0 = i.val; omega
  | 1 => show 0 + 1 * j.val = j.val; omega

theorem row_inv (a : S1x2048.Idx) : a = ix2 (0 : Fin 1) (a 1) := by
  funext b
  match b with
  | 0 => exact Fin.ext (Nat.lt_one_iff.mp (a 0).isLt)
  | 1 => rfl

variable (b : FVec Ideal S2x2048 .f32) (w : FVec Ideal S1x2048 .f32)

/-- The row written holds what was written, the other what it held; a row read holds that row. -/
theorem row_write : ((accM.access (rowR i h)).write (Elt Ideal) b w Finset.univ : FVec Ideal S2x2048 .f32) (ix2 i j) = w (ix2 0 j) := by
  have e := View.write_emb_of_mem (v := accM.access (rowR i h)) (Val := Elt Ideal) b w (Finset.mem_univ (ix2 (0 : Fin 1) j))
  rw [row_emb] at e
  exact e
theorem row_write_ne (i' : Fin 2) (hi : i' ≠ i) : ((accM.access (rowR i h)).write (Elt Ideal) b w Finset.univ : FVec Ideal S2x2048 .f32) (ix2 i' j) = b (ix2 i' j) := by
  refine View.write_of_not_mem (v := accM.access (rowR i h)) (Val := Elt Ideal) b w Finset.univ (i := ix2 i' j) fun hm => ?_
  obtain ⟨a, -, e⟩ := Finset.mem_map.mp hm
  have e' := (row_emb i h (a 1)).symm.trans ((congrArg (accM.access (rowR i h)).emb (row_inv a)).symm.trans e)
  exact hi (congrFun e' 0).symm
theorem row_read : (accM.view.readAt (Elt Ideal) (rowR i h).toLoadRect b : FVec Ideal S1x2048 .f32) (ix2 0 j) = b (ix2 i j) :=
  congrArg b (row_emb i h j)

variable (x y : Vec Ideal S512x2048 .bf16)

theorem accStep_0 : (accStep x y b : FVec Ideal S2x2048 .f32) (ix2 0 j) = b (ix2 0 j) + k0_pay15 x y (ix2 0 j) :=
  (row_write_ne 1 inb_S2x2048_S1x2048_1_0 j _ _ 0 (by decide)).trans <| (row_write 0 inb_S2x2048_S1x2048_0_0 j _ _).trans <| by
    rw [pay1_at]; exact congrArg (· + _) (row_read 0 inb_S2x2048_S1x2048_0_0 j b)
theorem accStep_1 : (accStep x y b : FVec Ideal S2x2048 .f32) (ix2 1 j) = b (ix2 1 j) + k0_pay16 y (ix2 0 j) :=
  (row_write 1 inb_S2x2048_S1x2048_1_0 j _ _).trans <| by
    rw [pay2_at]
    exact congrArg (· + _) ((row_read 1 inb_S2x2048_S1x2048_1_0 j _).trans (row_write_ne 0 inb_S2x2048_S1x2048_0_0 j _ _ 1 (by decide)))

end Accumulator

/-! ## The total -/

section Total

/-- What a row of `x` and the same row of `dy` add to column `j` of result row `i`. -/
def contrib (i : Fin 2) (x d : Fin 2048 → ℝ) (j : Fin 2048) : ℝ := if i = 0 then d j * hat x j else d j

variable (m : (ℓ : Loc nD τ sig) → Buf (Elt Ideal) ℓ) (X D : Dev nD → Fin 2048 → Fin 2048 → ℝ)

/-- The devices' rows are the real numbers `X` and `D`. -/
structure Reals : Prop where
  x : ∀ (c : Dev nD) (r k : Fin 2048), m ((c.tc : Thread nD τ).loc main_arg0) (ix2 r k) = ((X c r k : ℝ) : EReal)
  d : ∀ (c : Dev nD) (r k : Fin 2048), m ((c.tc : Thread nD τ).loc main_arg1) (ix2 r k) = ((D c r k : ℝ) : EReal)

/-- What point `t` of device `c` adds. -/
def part (i : Fin 2) (j : Fin 2048) (c : Dev nD) (t : ℕ) : ℝ := ∑ r : Fin 512, contrib i (X c (rowOf t r)) (D c (rowOf t r)) j

variable {m X D} (hm : Reals m X D)
include hm

theorem accAt_real (c : Dev nD) (i : Fin 2) (j : Fin 2048) : ∀ n, (accAt m c n : FVec Ideal S2x2048 .f32) (ix2 i j) = ((∑ t ∈ Finset.range n, part X D i j c t : ℝ) : EReal)
  | 0 => (pay3_at i j).trans (by simp)
  | n + 1 => by
    have hx : ∀ r k, xsAt m c n (ix2 r k) = ((X c (rowOf n r) k : ℝ) : EReal) := fun r k => (xsAt_at m c n r k).trans (hm.x c _ k)
    have hd : ∀ r k, dysAt m c n (ix2 r k) = ((D c (rowOf n r) k : ℝ) : EReal) := fun r k => (dysAt_at m c n r k).trans (hm.d c _ k)
    rw [Finset.sum_range_succ, EReal.coe_add]
    match i with
    | 0 => exact (accStep_0 j _ _ _).trans (congrArg₂ (· + ·) (accAt_real c 0 j n) (pay15_real _ _ _ _ hx hd 0 j))
    | 1 => exact (accStep_1 j _ _ _).trans (congrArg₂ (· + ·) (accAt_real c 1 j n) (pay16_real _ _ hd 0 j))

/-- What was sent in the two waves, added up, is a device's sum over its four points. -/
def sent (i : Fin 2) (j : Fin 2048) (w : Fin 2) (c : Dev nD) : ℝ :=
  if w = 0 then ∑ t ∈ Finset.range 3, part X D i j c t else ∑ t ∈ Finset.range 4, part X D i j c t - ∑ t ∈ Finset.range 3, part X D i j c t

theorem snt_real (c : Dev nD) (i : Fin 2) (j : Fin 2048) (w : Fin 2) : (snt m c w : FVec Ideal S2x2048 .f32) (ix2 i j) = ((sent (X := X) (D := D) i j w c : ℝ) : EReal) := by
  unfold snt sent
  split_ifs with h
  · exact accAt_real hm c i j 3
  · rw [EReal.coe_sub, ← accAt_real hm c i j 4, ← accAt_real hm c i j 3]; rfl

omit hm in
/-- A device and the seven that reach it are all the devices. -/
theorem sum_src (f : Dev nD → ℝ) (c : Dev nD) : f c + ∑ k : Fin 7, f (src c k) = ∑ d, f d := by
  rw [← Finset.add_sum_erase Finset.univ f (Finset.mem_univ c), show Finset.univ.erase c = Finset.univ.image (src c) from by revert c; decide,
    Finset.sum_image fun a _ b _ h => (by revert c a b; decide : ∀ (c : Dev nD) (a b : Fin 7), src c a = src c b → a = b) c a b h]

theorem foldl_real (c : Dev nD) (i : Fin 2) (j : Fin 2048) : ∀ (l : List (Fin 2 × Fin 7)) (v : FVec Ideal S2x2048 .f32) (a : ℝ), v (ix2 i j) = ((a : ℝ) : EReal) →
    l.foldl (fun v wk => addf v (snt m (src c wk.2) wk.1 : FVec Ideal S2x2048 .f32)) v (ix2 i j) = ((a + (l.map fun wk => sent (X := X) (D := D) i j wk.1 (src c wk.2)).sum : ℝ) : EReal)
  | [], v, a, h => by simpa using h
  | wk :: l, v, a, h => by
    rw [List.foldl_cons, foldl_real c i j l _ (a + sent (X := X) (D := D) i j wk.1 (src c wk.2)), List.map_cons, List.sum_cons, add_assoc]
    rw [EReal.coe_add, ← h, ← snt_real hm]; rfl

/-- Every device's result: the sum over all devices' rows. -/
theorem totAt_real (c : Dev nD) (i : Fin 2) (j : Fin 2048) :
    totAt m c (ix2 i j) = ((∑ d : Dev nD, ∑ t ∈ Finset.range 4, part X D i j d t : ℝ) : EReal) := by
  have hs : ∀ d, ∑ t ∈ Finset.range 4, part X D i j d t = sent (X := X) (D := D) i j 0 d + sent (X := X) (D := D) i j 1 d := fun d => by
    simp [sent]
  refine (foldl_real hm c i j wk14 _ _ (accAt_real hm c i j 4)).trans (congrArg _ ?_)
  rw [← sum_src (fun d => ∑ t ∈ Finset.range 4, part X D i j d t) c, add_right_inj]
  simp only [hs (src c _), Finset.sum_add_distrib]
  simp only [wk14, List.map_cons, List.map_nil, List.sum_cons, List.sum_nil, Fin.sum_univ_seven]
  ring

end Total

end Cert.RunProof

end
-- ==== Proof.Reference.lean ====
/-
  What the reference computes, read at an index, for arguments that are real numbers.
-/
module

public import proofs.«01_k».proof.Proof.Rows
public import proofs.«01_k».proof.Proof.Gen.ReferenceIdeal.Run

@[expose] public section

set_option maxRecDepth 16384

noncomputable section

namespace Cert.RunProof.Ref

open Idealize.ShloMosaic Idealize.ShloMosaic.TcCoe Idealize.SL.Sem Cert.ReferenceIdeal
open scoped BigOperators

attribute [local instance] Cert.ReferenceIdeal.Gen.facts₀ Cert.ReferenceIdeal.Gen.facts
open Facts₀

/-! ## The term, in pieces -/

/-- Each row's mean. -/
def means (x : FVec Ideal S16384x2048 .bf16) : FVec Ideal S16384x1 .f32 :=
  Host.divf (broadcastInDim S16384x1 ![0] bcast_S16384_S16384x1_0 (Host.reduceAdd (extf .f32 x bitsLt_bf16_f32) (constant S_ .f32 0x00000000#32) reducesTo_S16384x2048_S16384_d1 h_S_)) (broadcastInDim S16384x1 ![] bcast_S_S16384x1 (constant S_ .f32 0x45000000#32))

/-- The number of entries of a row that the variance divides by: none is left out. -/
def count : FVec Ideal S_ .f32 := subf (constant S_ .f32 0x45000000#32) (sitofp .f32 (constantI S_ 32 0#32))

/-- Each row's variance. -/
def variances (x : FVec Ideal S16384x2048 .bf16) : FVec Ideal S16384x1 .bf16 :=
  select (broadcastInDim S16384x1 ![] bcast_S_S16384x1 (cmpf .ogt count (constant S_ .f32 0x00000000#32)))
    (truncf .bf16 (Host.divf (broadcastInDim S16384x1 ![0] bcast_S16384_S16384x1_0 (Host.reduceAdd (mulf
        (subf (extf .f32 x bitsLt_bf16_f32) (broadcastInDim S16384x2048 ![0, 1] bcast_S16384x1_S16384x2048_0_1 (means x)))
        (subf (extf .f32 x bitsLt_bf16_f32) (broadcastInDim S16384x2048 ![0, 1] bcast_S16384x1_S16384x2048_0_1 (means x))))
      (constant S_ .f32 0x00000000#32) reducesTo_S16384x2048_S16384_d1 h_S_)) (broadcastInDim S16384x1 ![] bcast_S_S16384x1 count)) bitsLt_bf16_f32)
    (broadcastInDim S16384x1 ![] bcast_S_S16384x1 (truncf .bf16 (constant S_ .f32 0x7FC00000#32) bitsLt_bf16_f32))

/-- Each row centred and scaled. -/
def hats (x : FVec Ideal S16384x2048 .bf16) : FVec Ideal S16384x2048 .bf16 :=
  mulf (subf x (broadcastInDim S16384x2048 ![0, 1] bcast_S16384x1_S16384x2048_0_1 (truncf .bf16 (means x) bitsLt_bf16_f32)))
    (broadcastInDim S16384x2048 ![0, 1] bcast_S16384x1_S16384x2048_0_1 (Host.divf (broadcastInDim S16384x1 ![] bcast_S_S16384x1 (constant S_ .bf16 0x3F80#16))
      (Host.sqrt (addf (variances x) (broadcastInDim S16384x1 ![] bcast_S_S16384x1 (constant S_ .bf16 0x3728#16))))))

/-- The two rows of the result. -/
def out (x d : FVec Ideal S16384x2048 .bf16) : FVec Ideal S2x2048 .f32 :=
  extf .f32 (concatenate S2x2048 0
    [⟨S1x2048, (broadcastInDim S1x2048 ![1] bcast_S2048_S1x2048_1 (truncf .bf16 (Host.reduceAdd (extf .f32 (mulf d (hats x)) bitsLt_bf16_f32) (constant S_ .f32 0x00000000#32) reducesTo_S16384x2048_S2048_d0 h_S_) bitsLt_bf16_f32))⟩,
     ⟨S1x2048, (broadcastInDim S1x2048 ![1] bcast_S2048_S1x2048_1 (truncf .bf16 (Host.reduceAdd (extf .f32 d bitsLt_bf16_f32) (constant S_ .f32 0x00000000#32) reducesTo_S16384x2048_S2048_d0 h_S_) bitsLt_bf16_f32))⟩]
    concatenates_S1x2048_S1x2048_S2x2048_d0) bitsLt_bf16_f32

theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := Value.run (F := Ideal) m ρ

/-! ## The pieces, read -/

variable (x d : FVec Ideal S16384x2048 .bf16) (X D : Fin 16384 → Fin 2048 → ℝ)

theorem means_real (hx : ∀ r k, x (ix2 r k) = ((X r k : ℝ) : EReal)) (r : Fin 16384) (k : Fin 1) : means x (ix2 r k) = ((mean (X r) : ℝ) : EReal) := by
  pointwise [means]
  simp only [hx, ereal_sum]
  rw [bits_2048, Ideal.div_coe (by norm_num), ← EReal.coe_mul]; rfl

theorem count_real (i : S_.Idx) : count i = ((2048 : ℝ) : EReal) := by
  pointwise [count]
  rw [bits_2048, show FloatOps.sitofp (F := Ideal) FTy.f32 0#32 = ((0 : ℝ) : EReal) from by simp [FloatOps.sitofp], ← EReal.coe_sub, sub_zero]

theorem variances_real (hx : ∀ r k, x (ix2 r k) = ((X r k : ℝ) : EReal)) (r : Fin 16384) (k : Fin 1) : variances x (ix2 r k) = ((spread (X r) : ℝ) : EReal) := by
  pointwise [variances]
  rw [count_real, if_pos (by exact_mod_cast (by norm_num : (0 : ℝ) < 2048)), Ideal.div_coe (by norm_num)]
  simp only [hx, means_real x X hx, ← EReal.coe_sub, ← EReal.coe_mul, ereal_sum]; rfl

theorem hats_real (hx : ∀ r k, x (ix2 r k) = ((X r k : ℝ) : EReal)) (r : Fin 16384) (k : Fin 2048) : hats x (ix2 r k) = ((hat (X r) k : ℝ) : EReal) := by
  pointwise [hats]
  rw [hx, means_real x X hx, variances_real x X hx, bits_eps, ← EReal.coe_add, sqrt_pos (spread_eps_pos _), Ideal.div_coe (Real.sqrt_pos.2 (spread_eps_pos _)).ne', one_mul,
    ← EReal.coe_sub, ← EReal.coe_mul, one_div]; rfl

theorem out_0 (j : Fin 2048) (hx : ∀ r k, x (ix2 r k) = ((X r k : ℝ) : EReal)) (hd : ∀ r k, d (ix2 r k) = ((D r k : ℝ) : EReal)) :
    out x d (ix2 0 j) = ((∑ r, D r j * hat (X r) j : ℝ) : EReal) := by
  pointwise [out]
  simp only [hd, hats_real x X hx, ← EReal.coe_mul, ereal_sum]
theorem out_1 (j : Fin 2048) (hd : ∀ r k, d (ix2 r k) = ((D r k : ℝ) : EReal)) :
    out x d (ix2 1 j) = ((∑ r, D r j : ℝ) : EReal) := by
  pointwise [out]
  simp only [hd, ereal_sum]

end Cert.RunProof.Ref

end
-- ==== Proof.Algebraic.lean ====
/-
  The kernel against the reference: on finite rows, every device's result is the reference's.
-/
module

public import proofs.«01_k».proof.Defs
public import proofs.«01_k».proof.Proof.Frames
public import proofs.«01_k».proof.Proof.Sums
public import proofs.«01_k».proof.Proof.Reference
public import Idealize.ShloMosaic.Lib.ReduceAll

@[expose] public section

set_option maxRecDepth 16384

noncomputable section

namespace Cert.RunProof

open Idealize.ShloMosaic Idealize.ShloMosaic.TcCoe Idealize.SL.Sem
open scoped BigOperators

/-! ## The rows, regrouped -/

/-- A sum over `k` blocks of `n` is a sum over all. -/
theorem sum_blocks (k n : ℕ) (f : Fin (k * n) → ℝ) (g : Fin k → Fin n → Fin (k * n)) (hg : ∀ d r, (g d r).val = n * d.val + r.val) :
    ∑ R, f R = ∑ d, ∑ r, f (g d r) := by
  rw [← finProdFinEquiv.sum_comp f, Fintype.sum_prod_type]
  refine Finset.sum_congr rfl fun d _ => Finset.sum_congr rfl fun r _ => congrArg f (Fin.ext ?_)
  rw [hg, finProdFinEquiv_apply_val, add_comm]

/-- Row `r` of device `c`, among all rows. -/
def rowAll (c : Fin 8) (r : Fin 2048) : Fin 16384 := ⟨2048 * c.val + r.val, by omega⟩

theorem sum_rows (f : Fin 16384 → ℝ) : ∑ R, f R = ∑ c : Fin 8, ∑ t ∈ Finset.range 4, ∑ r : Fin 512, f (rowAll c (rowOf t r)) := by
  rw [sum_blocks 8 2048 f rowAll fun _ _ => rfl]
  refine Finset.sum_congr rfl fun c _ => ?_
  rw [sum_blocks 4 512 (fun q => f (rowAll c q)) (fun t r => rowOf t.val r) fun t r => by simp [rowOf, Nat.mod_eq_of_lt t.isLt], Finset.sum_range]

/-! ## The precondition -/

/-- What the precondition's operations ask of the shapes, on one device's block of rows. -/
theorem facts_rows : Cert.Pre_finite_rows_KernelIdeal.Facts := ⟨by decide, by decide, by decide⟩
/-- The same over all the rows. -/
theorem facts_all : Cert.Pre_finite_rows_ReferenceIdeal.Facts := ⟨by decide, by decide, by decide⟩

section Pre

attribute [local instance] facts_rows
open Cert.Pre_finite_rows_KernelIdeal

/-- An array every entry of which passes the test is of real numbers. -/
theorem real_of_test (x : FVec Ideal S2048x2048 .bf16) (i : S2048x2048.Idx)
    (h : cmpf .olt (Host.absf x) (broadcastInDim S2048x2048 ![] Facts.bcast_S_S2048x2048 (constant S_ .bf16 0x7F80#16)) i = 1#1) : x i ≠ ⊤ ∧ x i ≠ ⊥ := by
  pointwise at h
  rw [bits_inf, Ideal.absf_def] at h
  have h' : max (x i) (-x i) < ⊤ := by
    by_contra hn
    simp only [hn, decide_false] at h
    exact absurd h (by decide)
  refine ⟨fun e => ?_, fun e => ?_⟩ <;> simp [e] at h'

theorem real_of_pre (x d : FVec Ideal S2048x2048 .bf16) (g : FVec Ideal S2048 .bf16) (h : fn x d g = fun _ => 1#1) (i : S2048x2048.Idx) :
    (x i ≠ ⊤ ∧ x i ≠ ⊥) ∧ d i ≠ ⊤ ∧ d i ≠ ⊥ := by
  have h0 := congrFun h (Shape.Idx.first Facts.h_S_)
  obtain ⟨hx, hd⟩ := IntOp.andi_eq_one.1 h0
  haveI : Subsingleton S_.Idx := ⟨fun a b => funext fun q => q.elim0⟩
  exact ⟨real_of_test x i (Host.reduce_andi_all _ _ _ _ _ hx i), real_of_test d i (Host.reduce_andi_all _ _ _ _ _ hd i)⟩

end Pre

/-! ## The claim -/

section Claim

variable (m : (ℓ : Loc Cert.KernelIdeal.nD Cert.KernelIdeal.τ Cert.KernelIdeal.sig) → Buf (Elt Ideal) ℓ)
  (x d : FVec Ideal Cert.ReferenceIdeal.S16384x2048 .bf16)

/-- Every device holds its block of the rows of `x` and of `d`. -/
structure Blocks : Prop where
  x : ∀ (c : Dev Cert.KernelIdeal.nD), m ((c.tc : Thread Cert.KernelIdeal.nD Cert.KernelIdeal.τ).loc Cert.KernelIdeal.main_arg0) = Layout.block ⟨2, ![2048, 2048]⟩ ⟨2, ![16384, 2048]⟩ 0 8 c x
  d : ∀ (c : Dev Cert.KernelIdeal.nD), m ((c.tc : Thread Cert.KernelIdeal.nD Cert.KernelIdeal.τ).loc Cert.KernelIdeal.main_arg1) = Layout.block ⟨2, ![2048, 2048]⟩ ⟨2, ![16384, 2048]⟩ 0 8 c d

/-- Entry `(r, k)` of block `c` is entry `(2048 c + r, k)` of the whole. -/
theorem block_at (c : Fin 8) (v : FVec Ideal Cert.ReferenceIdeal.S16384x2048 .bf16) (r k : Fin 2048) :
    Layout.block ⟨2, ![2048, 2048]⟩ ⟨2, ![16384, 2048]⟩ 0 8 c v (by decide) (ix2 r k) = v (ix2 (rowAll c r) k) := by
  refine congrArg v (funext fun a => Fin.ext ?_)
  match a with
  | 0 => show c.val * 2048 + r.val = 2048 * c.val + r.val; omega
  | 1 => rfl

/-- Every row of the whole lies in some device's block. -/
theorem rowAll_onto (R : Fin 16384) : ∃ c r, R = rowAll c r :=
  ⟨⟨R.val / 2048, by omega⟩, ⟨R.val % 2048, by omega⟩, Fin.ext (by show R.val = 2048 * (R.val / 2048) + R.val % 2048; omega)⟩

/-- On finite rows, every device's total is the reference's result. -/
theorem tot_eq_out (hb : Blocks m x d) (hp : Cert.Pre_KernelIdeal_finite_rows_KernelIdeal (hPre_finite_rows_KernelIdeal := facts_rows) m) (c : Dev Cert.KernelIdeal.nD) :
    totAt m c = Ref.out x d := by
  have bx : ∀ (c : Fin 8) (r k : Fin 2048), m ((Dev.tc (nD := 8) c : Thread Cert.KernelIdeal.nD Cert.KernelIdeal.τ).loc Cert.KernelIdeal.main_arg0) (ix2 r k) = x (ix2 (rowAll c r) k) :=
    fun c r k => (congrFun (hb.x c) _).trans (block_at c x r k)
  have bd : ∀ (c : Fin 8) (r k : Fin 2048), m ((Dev.tc (nD := 8) c : Thread Cert.KernelIdeal.nD Cert.KernelIdeal.τ).loc Cert.KernelIdeal.main_arg1) (ix2 r k) = d (ix2 (rowAll c r) k) :=
    fun c r k => (congrFun (hb.d c) _).trans (block_at c d r k)
  have rx : ∀ R k, x (ix2 R k) = (((x (ix2 R k)).toReal : ℝ) : EReal) := fun R k => by
    obtain ⟨c, r, rfl⟩ := rowAll_onto R
    have h := (real_of_pre _ _ _ (hp c) (ix2 r k)).1
    rw [bx] at h
    exact (EReal.coe_toReal h.1 h.2).symm
  have rd : ∀ R k, d (ix2 R k) = (((d (ix2 R k)).toReal : ℝ) : EReal) := fun R k => by
    obtain ⟨c, r, rfl⟩ := rowAll_onto R
    have h := (real_of_pre _ _ _ (hp c) (ix2 r k)).2
    rw [bd] at h
    exact (EReal.coe_toReal h.1 h.2).symm
  have hm : Reals m (fun c r k => (x (ix2 (rowAll c r) k)).toReal) (fun c r k => (d (ix2 (rowAll c r) k)).toReal) :=
    ⟨fun c r k => (bx c r k).trans (rx _ _), fun c r k => (bd c r k).trans (rd _ _)⟩
  funext ij
  obtain ⟨i, j, rfl⟩ : ∃ (i : Fin 2) (j : Fin 2048), ij = ix2 i j := ⟨ij 0, ij 1, eq_ix2 ij⟩
  refine (totAt_real hm c i j).trans ?_
  refine (congrArg Real.toEReal (sum_rows fun R => contrib i (fun k => (x (ix2 R k)).toReal) (fun k => (d (ix2 R k)).toReal) j)).symm.trans ?_
  match i with
  | 0 => exact (Ref.out_0 x d _ _ j rx rd).symm
  | 1 => exact (Ref.out_1 x d _ j rd).symm

end Claim

/-- On finite rows, every device of the kernel ends with the two sums that the reference computes of the whole arrays. -/
theorem algebraic : Cert.algebraic_KernelIdeal_ReferenceIdeal_pre_finite_rows_KernelIdeal (hKernelIdeal := Cert.KernelIdeal.Gen.facts)
    (hReferenceIdeal := Cert.ReferenceIdeal.Gen.facts) (hPre_finite_rows_KernelIdeal := facts_rows) := by
  intro m g m' g' hp ha
  refine ⟨_, ?_, (θ_run Cert.ReferenceIdeal.defs _ _).mono (fun r h => h 0) (Ref.run_out m' g')⟩
  refine (θ_run Cert.KernelIdeal.defs _ _).mono (fun r h c => ⟨?_, kept_of m r h.1 c⟩) (run_main m g)
  exact ((h.1 c 3).trans (finalA_3 m c)).trans (tot_eq_out m _ _ ⟨fun c => (ha c).1, fun c => (ha c).2.1⟩ hp c)

end Cert.RunProof

end
-- ==== Proof.lean ====
module

public import proofs.«01_k».proof.Defs
public import proofs.«01_k».proof.Proof.Algebraic

@[expose] public section

noncomputable section

namespace Cert.Proof

open Cert.RunProof in
/-- All claims. The frames are proved of any inputs, so those on finite rows follow at once. -/
theorem claim : Cert.Claim :=
  ⟨Cert.Kernel.Gen.facts, Cert.KernelIdeal.Gen.facts, Cert.ReferenceIdeal.Gen.facts, facts_rows, facts_all,
    frame_Kernel, frame_KernelIdeal, fun m g _ => frame_KernelIdeal m g trivial, frame_ReferenceIdeal,
    fun m g _ => frame_ReferenceIdeal m g trivial, trivial, algebraic⟩

end Cert.Proof

end
